-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S512x1024 : Shape := ⟨2, ![512, 1024]⟩
abbrev S2x512x1024 : Shape := ⟨3, ![2, 512, 1024]⟩
abbrev S8 : Shape := ⟨1, ![8]⟩
abbrev S8x2 : Shape := ⟨2, ![8, 2]⟩
abbrev S_ : Shape := ⟨0, ![]⟩
abbrev S1024x512 : Shape := ⟨2, ![1024, 512]⟩
abbrev S1 : Shape := ⟨1, ![1]⟩
abbrev S512x128 : Shape := ⟨2, ![512, 128]⟩
abbrev S1x1 : Shape := ⟨2, ![1, 1]⟩
abbrev S1x512x128 : Shape := ⟨3, ![1, 512, 128]⟩

abbrev nBuf : Space → Nat
  | .hbm => 3
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S512x4096, .f32⟩
  | .local _ .vmem, ⟨0, _⟩ => ⟨S1024x1024, .bf16⟩
  | .local _ .vmem, ⟨1, _⟩ => ⟨S1024x4096, .bf16⟩
  | .local _ .vmem, ⟨2, _⟩ => ⟨S512x4096, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2x512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_17 : BitVec 32 := 1#32
  let v29 : BitVec 32 := Scalar.muli v21 c1_i32_17
  let v30 : BitVec 32 := Scalar.addi v28 v29
  v30.toNat
def k0_dev2 (d0 : Dev nD) : Nat :=
  let c0_i32_20 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_19 : BitVec 32 := 4#32
  let v31 : BitVec 32 := Scalar.muli v22 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_26 : BitVec 32 := 2#32
  let v39 : BitVec 32 := Scalar.muli v23 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 2 → Nat :=
  let c0 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v43 : BitVec 32 := Scalar.muli v8 c512_i32
  let v44 : Index := Scalar.indexCast v43
  ![0, v44.toNat]
def k0_off2 (d0 : Dev nD) : Fin 2 → Nat :=
  let c0_30 : Index := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_28 v8
  let c512_i32_29 : BitVec 32 := 512#32
  let v48 : BitVec 32 := Scalar.muli v47 c512_i32_29
  let v49 : Index := Scalar.indexCast v48
  ![0, v49.toNat]
def k0_off3 (d0 : Dev nD) : Fin 2 → Nat :=
  let c0_31 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32 : BitVec 32 := 1024#32
  let v52 : BitVec 32 := Scalar.muli v10 c1024_i32
  let v53 : Index := Scalar.indexCast v52
  ![0, v53.toNat]
def k0_dev4 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v61 : BitVec 32 := Scalar.muli v2 c4_i32_36
  let v62 : BitVec 32 := Scalar.addi c0_i32_37 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v63 : BitVec 32 := Scalar.muli v5 c2_i32_38
  let v64 : BitVec 32 := Scalar.addi v62 v63
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_39 : BitVec 32 := 1#32
  let v65 : BitVec 32 := Scalar.muli v21 c1_i32_39
  let v66 : BitVec 32 := Scalar.addi v64 v65
  v66.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v73 : BitVec 32 := Scalar.muli v2 c4_i32_46
  let v74 : BitVec 32 := Scalar.addi c0_i32_47 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v75 : BitVec 32 := Scalar.muli v5 c2_i32_48
  let v76 : BitVec 32 := Scalar.addi v74 v75
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_49 : BitVec 32 := 1#32
  let v77 : BitVec 32 := Scalar.muli v21 c1_i32_49
  let v78 : BitVec 32 := Scalar.addi v76 v77
  v78.toNat
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v85 : BitVec 32 := Scalar.muli v2 c4_i32_55
  let v86 : BitVec 32 := Scalar.addi c0_i32_56 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v87 : BitVec 32 := Scalar.muli v5 c2_i32_57
  let v88 : BitVec 32 := Scalar.addi v86 v87
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_58 : BitVec 32 := 1#32
  let v89 : BitVec 32 := Scalar.muli v21 c1_i32_58
  let v90 : BitVec 32 := Scalar.addi v88 v89
  v90.toNat
def k0_dev7 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v97 : BitVec 32 := Scalar.muli v2 c4_i32_64
  let v98 : BitVec 32 := Scalar.addi c0_i32_65 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v99 : BitVec 32 := Scalar.muli v5 c2_i32_66
  let v100 : BitVec 32 := Scalar.addi v98 v99
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_67 : BitVec 32 := 1#32
  let v101 : BitVec 32 := Scalar.muli v21 c1_i32_67
  let v102 : BitVec 32 := Scalar.addi v100 v101
  v102.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v109 : BitVec 32 := Scalar.muli v2 c4_i32_73
  let v110 : BitVec 32 := Scalar.addi c0_i32_74 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v111 : BitVec 32 := Scalar.muli v5 c2_i32_75
  let v112 : BitVec 32 := Scalar.addi v110 v111
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_76 : BitVec 32 := 1#32
  let v113 : BitVec 32 := Scalar.muli v21 c1_i32_76
  let v114 : BitVec 32 := Scalar.addi v112 v113
  v114.toNat
def k0_dev9 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v121 : BitVec 32 := Scalar.muli v2 c4_i32_82
  let v122 : BitVec 32 := Scalar.addi c0_i32_83 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v123 : BitVec 32 := Scalar.muli v5 c2_i32_84
  let v124 : BitVec 32 := Scalar.addi v122 v123
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_85 : BitVec 32 := 1#32
  let v125 : BitVec 32 := Scalar.muli v21 c1_i32_85
  let v126 : BitVec 32 := Scalar.addi v124 v125
  v126.toNat
def k0_dev10 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v133 : BitVec 32 := Scalar.muli v2 c4_i32_90
  let v134 : BitVec 32 := Scalar.addi c0_i32_91 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v135 : BitVec 32 := Scalar.muli v5 c2_i32_92
  let v136 : BitVec 32 := Scalar.addi v134 v135
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_93 : BitVec 32 := 1#32
  let v137 : BitVec 32 := Scalar.muli v21 c1_i32_93
  let v138 : BitVec 32 := Scalar.addi v136 v137
  v138.toNat
def k0_dev11 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v145 : BitVec 32 := Scalar.muli v2 c4_i32_98
  let v146 : BitVec 32 := Scalar.addi c0_i32_99 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v147 : BitVec 32 := Scalar.muli v5 c2_i32_100
  let v148 : BitVec 32 := Scalar.addi v146 v147
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_101 : BitVec 32 := 1#32
  let v149 : BitVec 32 := Scalar.muli v21 c1_i32_101
  let v150 : BitVec 32 := Scalar.addi v148 v149
  v150.toNat
def k0_off4 (d0 : Dev nD) (c0_i32_130 : BitVec 32) : Fin 2 → Nat :=
  let c0_131 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_129 : BitVec 32 := 1024#32
  let v179 : BitVec 32 := Scalar.muli v10 c1024_i32_129
  let v180 : BitVec 32 := Scalar.addi v179 c0_i32_130
  let v181 : Index := Scalar.indexCast v180
  ![0, v181.toNat]
def k0_dev12 (d0 : Dev nD) : Nat :=
  let c0_i32_137 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_136 : BitVec 32 := 4#32
  let v187 : BitVec 32 := Scalar.muli v22 c4_i32_136
  let v188 : BitVec 32 := Scalar.addi c0_i32_137 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v189 : BitVec 32 := Scalar.muli v5 c2_i32_138
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v191 : BitVec 32 := Scalar.muli v8 c1_i32_139
  let v192 : BitVec 32 := Scalar.addi v190 v191
  v192.toNat
def k0_dev13 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v225 : BitVec 32 := Scalar.muli v2 c4_i32_171
  let v226 : BitVec 32 := Scalar.addi c0_i32_172 v225
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_173 : BitVec 32 := 2#32
  let v227 : BitVec 32 := Scalar.muli v23 c2_i32_173
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v229 : BitVec 32 := Scalar.muli v8 c1_i32_174
  let v230 : BitVec 32 := Scalar.addi v228 v229
  v230.toNat
def k0_dev14 (d0 : Dev nD) : Nat :=
  let c0_i32_207 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_206 : BitVec 32 := 4#32
  let v263 : BitVec 32 := Scalar.muli v22 c4_i32_206
  let v264 : BitVec 32 := Scalar.addi c0_i32_207 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v265 : BitVec 32 := Scalar.muli v5 c2_i32_208
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v267 : BitVec 32 := Scalar.muli v8 c1_i32_209
  let v268 : BitVec 32 := Scalar.addi v266 v267
  v268.toNat
def k0_dev15 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v301 : BitVec 32 := Scalar.muli v2 c4_i32_241
  let v302 : BitVec 32 := Scalar.addi c0_i32_242 v301
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_243 : BitVec 32 := 2#32
  let v303 : BitVec 32 := Scalar.muli v23 c2_i32_243
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v305 : BitVec 32 := Scalar.muli v8 c1_i32_244
  let v306 : BitVec 32 := Scalar.addi v304 v305
  v306.toNat
def k0_dev16 (d0 : Dev nD) : Nat :=
  let c0_i32_277 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_276 : BitVec 32 := 4#32
  let v339 : BitVec 32 := Scalar.muli v22 c4_i32_276
  let v340 : BitVec 32 := Scalar.addi c0_i32_277 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v341 : BitVec 32 := Scalar.muli v5 c2_i32_278
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v343 : BitVec 32 := Scalar.muli v8 c1_i32_279
  let v344 : BitVec 32 := Scalar.addi v342 v343
  v344.toNat
def k0_dev17 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v377 : BitVec 32 := Scalar.muli v2 c4_i32_311
  let v378 : BitVec 32 := Scalar.addi c0_i32_312 v377
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_313 : BitVec 32 := 2#32
  let v379 : BitVec 32 := Scalar.muli v23 c2_i32_313
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v381 : BitVec 32 := Scalar.muli v8 c1_i32_314
  let v382 : BitVec 32 := Scalar.addi v380 v381
  v382.toNat
def k0_dev18 (d0 : Dev nD) : Nat :=
  let c0_i32_347 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_346 : BitVec 32 := 4#32
  let v415 : BitVec 32 := Scalar.muli v22 c4_i32_346
  let v416 : BitVec 32 := Scalar.addi c0_i32_347 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v417 : BitVec 32 := Scalar.muli v5 c2_i32_348
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v419 : BitVec 32 := Scalar.muli v8 c1_i32_349
  let v420 : BitVec 32 := Scalar.addi v418 v419
  v420.toNat
def k0_dev19 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v453 : BitVec 32 := Scalar.muli v2 c4_i32_381
  let v454 : BitVec 32 := Scalar.addi c0_i32_382 v453
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_383 : BitVec 32 := 2#32
  let v455 : BitVec 32 := Scalar.muli v23 c2_i32_383
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v457 : BitVec 32 := Scalar.muli v8 c1_i32_384
  let v458 : BitVec 32 := Scalar.addi v456 v457
  v458.toNat
def k0_off5 (d0 : Dev nD) (c0_i32_409 : BitVec 32) : Fin 2 → Nat :=
  let c0_410 : Index := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_408 : BitVec 32 := 1024#32
  let v481 : BitVec 32 := Scalar.muli v13 c1024_i32_408
  let v482 : BitVec 32 := Scalar.addi v481 c0_i32_409
  let v483 : Index := Scalar.indexCast v482
  ![0, v483.toNat]
def k0_dev20 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v485 : BitVec 32 := Scalar.muli v2 c4_i32_416
  let v486 : BitVec 32 := Scalar.addi c0_i32_417 v485
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_418 : BitVec 32 := 2#32
  let v487 : BitVec 32 := Scalar.muli v23 c2_i32_418
  let v488 : BitVec 32 := Scalar.addi v486 v487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v489 : BitVec 32 := Scalar.muli v8 c1_i32_419
  let v490 : BitVec 32 := Scalar.addi v488 v489
  v490.toNat
def k0_dev21 (d0 : Dev nD) : Nat :=
  let c0_i32_430 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_429 : BitVec 32 := 4#32
  let v498 : BitVec 32 := Scalar.muli v2 c4_i32_429
  let v499 : BitVec 32 := Scalar.addi c0_i32_430 v498
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_431 : BitVec 32 := 2#32
  let v500 : BitVec 32 := Scalar.muli v23 c2_i32_431
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_432 : BitVec 32 := 1#32
  let v502 : BitVec 32 := Scalar.muli v8 c1_i32_432
  let v503 : BitVec 32 := Scalar.addi v501 v502
  v503.toNat
def k0_off6 (d0 : Dev nD) (c128_i32_457 : BitVec 32) : Fin 2 → Nat :=
  let c0_458 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c1024_i32_456 : BitVec 32 := 1024#32
  let v527 : BitVec 32 := Scalar.muli v16 c1024_i32_456
  let v528 : BitVec 32 := Scalar.addi v527 c128_i32_457
  let v529 : Index := Scalar.indexCast v528
  ![0, v529.toNat]
def k0_dev22 (d0 : Dev nD) : Nat :=
  let c0_i32_465 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_464 : BitVec 32 := 4#32
  let v531 : BitVec 32 := Scalar.muli v22 c4_i32_464
  let v532 : BitVec 32 := Scalar.addi c0_i32_465 v531
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v533 : BitVec 32 := Scalar.muli v5 c2_i32_466
  let v534 : BitVec 32 := Scalar.addi v532 v533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v535 : BitVec 32 := Scalar.muli v8 c1_i32_467
  let v536 : BitVec 32 := Scalar.addi v534 v535
  v536.toNat
def k0_dev23 (d0 : Dev nD) : Nat :=
  let c0_i32_478 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_477 : BitVec 32 := 4#32
  let v544 : BitVec 32 := Scalar.muli v22 c4_i32_477
  let v545 : BitVec 32 := Scalar.addi c0_i32_478 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v546 : BitVec 32 := Scalar.muli v5 c2_i32_479
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_480 : BitVec 32 := 1#32
  let v548 : BitVec 32 := Scalar.muli v8 c1_i32_480
  let v549 : BitVec 32 := Scalar.addi v547 v548
  v549.toNat
def k0_dev24 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v577 : BitVec 32 := Scalar.muli v2 c4_i32_512
  let v578 : BitVec 32 := Scalar.addi c0_i32_513 v577
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_514 : BitVec 32 := 2#32
  let v579 : BitVec 32 := Scalar.muli v23 c2_i32_514
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_515 : BitVec 32 := 1#32
  let v581 : BitVec 32 := Scalar.muli v8 c1_i32_515
  let v582 : BitVec 32 := Scalar.addi v580 v581
  v582.toNat
def k0_dev25 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_525 : BitVec 32 := 4#32
  let v590 : BitVec 32 := Scalar.muli v2 c4_i32_525
  let v591 : BitVec 32 := Scalar.addi c0_i32_526 v590
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_527 : BitVec 32 := 2#32
  let v592 : BitVec 32 := Scalar.muli v23 c2_i32_527
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_528 : BitVec 32 := 1#32
  let v594 : BitVec 32 := Scalar.muli v8 c1_i32_528
  let v595 : BitVec 32 := Scalar.addi v593 v594
  v595.toNat
def k0_dev26 (d0 : Dev nD) : Nat :=
  let c0_i32_561 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_560 : BitVec 32 := 4#32
  let v623 : BitVec 32 := Scalar.muli v22 c4_i32_560
  let v624 : BitVec 32 := Scalar.addi c0_i32_561 v623
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v625 : BitVec 32 := Scalar.muli v5 c2_i32_562
  let v626 : BitVec 32 := Scalar.addi v624 v625
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_563 : BitVec 32 := 1#32
  let v627 : BitVec 32 := Scalar.muli v8 c1_i32_563
  let v628 : BitVec 32 := Scalar.addi v626 v627
  v628.toNat
def k0_dev27 (d0 : Dev nD) : Nat :=
  let c0_i32_574 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_573 : BitVec 32 := 4#32
  let v636 : BitVec 32 := Scalar.muli v22 c4_i32_573
  let v637 : BitVec 32 := Scalar.addi c0_i32_574 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v638 : BitVec 32 := Scalar.muli v5 c2_i32_575
  let v639 : BitVec 32 := Scalar.addi v637 v638
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_576 : BitVec 32 := 1#32
  let v640 : BitVec 32 := Scalar.muli v8 c1_i32_576
  let v641 : BitVec 32 := Scalar.addi v639 v640
  v641.toNat
def k0_dev28 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v669 : BitVec 32 := Scalar.muli v2 c4_i32_608
  let v670 : BitVec 32 := Scalar.addi c0_i32_609 v669
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_610 : BitVec 32 := 2#32
  let v671 : BitVec 32 := Scalar.muli v23 c2_i32_610
  let v672 : BitVec 32 := Scalar.addi v670 v671
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_611 : BitVec 32 := 1#32
  let v673 : BitVec 32 := Scalar.muli v8 c1_i32_611
  let v674 : BitVec 32 := Scalar.addi v672 v673
  v674.toNat
def k0_dev29 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v682 : BitVec 32 := Scalar.muli v2 c4_i32_621
  let v683 : BitVec 32 := Scalar.addi c0_i32_622 v682
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_623 : BitVec 32 := 2#32
  let v684 : BitVec 32 := Scalar.muli v23 c2_i32_623
  let v685 : BitVec 32 := Scalar.addi v683 v684
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v686 : BitVec 32 := Scalar.muli v8 c1_i32_624
  let v687 : BitVec 32 := Scalar.addi v685 v686
  v687.toNat
def k0_dev30 (d0 : Dev nD) : Nat :=
  let c0_i32_657 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_656 : BitVec 32 := 4#32
  let v715 : BitVec 32 := Scalar.muli v22 c4_i32_656
  let v716 : BitVec 32 := Scalar.addi c0_i32_657 v715
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v717 : BitVec 32 := Scalar.muli v5 c2_i32_658
  let v718 : BitVec 32 := Scalar.addi v716 v717
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_659 : BitVec 32 := 1#32
  let v719 : BitVec 32 := Scalar.muli v8 c1_i32_659
  let v720 : BitVec 32 := Scalar.addi v718 v719
  v720.toNat
def k0_dev31 (d0 : Dev nD) : Nat :=
  let c0_i32_670 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_669 : BitVec 32 := 4#32
  let v728 : BitVec 32 := Scalar.muli v22 c4_i32_669
  let v729 : BitVec 32 := Scalar.addi c0_i32_670 v728
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_671 : BitVec 32 := 2#32
  let v730 : BitVec 32 := Scalar.muli v5 c2_i32_671
  let v731 : BitVec 32 := Scalar.addi v729 v730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v732 : BitVec 32 := Scalar.muli v8 c1_i32_672
  let v733 : BitVec 32 := Scalar.addi v731 v732
  v733.toNat
def k0_dev32 (d0 : Dev nD) : Nat :=
  let c0_i32_705 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_704 : BitVec 32 := 4#32
  let v761 : BitVec 32 := Scalar.muli v2 c4_i32_704
  let v762 : BitVec 32 := Scalar.addi c0_i32_705 v761
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_706 : BitVec 32 := 2#32
  let v763 : BitVec 32 := Scalar.muli v23 c2_i32_706
  let v764 : BitVec 32 := Scalar.addi v762 v763
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_707 : BitVec 32 := 1#32
  let v765 : BitVec 32 := Scalar.muli v8 c1_i32_707
  let v766 : BitVec 32 := Scalar.addi v764 v765
  v766.toNat
def k0_dev33 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v774 : BitVec 32 := Scalar.muli v2 c4_i32_717
  let v775 : BitVec 32 := Scalar.addi c0_i32_718 v774
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_719 : BitVec 32 := 2#32
  let v776 : BitVec 32 := Scalar.muli v23 c2_i32_719
  let v777 : BitVec 32 := Scalar.addi v775 v776
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_720 : BitVec 32 := 1#32
  let v778 : BitVec 32 := Scalar.muli v8 c1_i32_720
  let v779 : BitVec 32 := Scalar.addi v777 v778
  v779.toNat
def k0_dev34 (d0 : Dev nD) : Nat :=
  let c0_i32_753 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_752 : BitVec 32 := 4#32
  let v807 : BitVec 32 := Scalar.muli v22 c4_i32_752
  let v808 : BitVec 32 := Scalar.addi c0_i32_753 v807
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_754 : BitVec 32 := 2#32
  let v809 : BitVec 32 := Scalar.muli v5 c2_i32_754
  let v810 : BitVec 32 := Scalar.addi v808 v809
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_755 : BitVec 32 := 1#32
  let v811 : BitVec 32 := Scalar.muli v8 c1_i32_755
  let v812 : BitVec 32 := Scalar.addi v810 v811
  v812.toNat
def k0_dev35 (d0 : Dev nD) : Nat :=
  let c0_i32_766 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_765 : BitVec 32 := 4#32
  let v820 : BitVec 32 := Scalar.muli v22 c4_i32_765
  let v821 : BitVec 32 := Scalar.addi c0_i32_766 v820
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_767 : BitVec 32 := 2#32
  let v822 : BitVec 32 := Scalar.muli v5 c2_i32_767
  let v823 : BitVec 32 := Scalar.addi v821 v822
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_768 : BitVec 32 := 1#32
  let v824 : BitVec 32 := Scalar.muli v8 c1_i32_768
  let v825 : BitVec 32 := Scalar.addi v823 v824
  v825.toNat
def k0_off7 (d0 : Dev nD) (c0_i32_828 : BitVec 32) : Fin 2 → Nat :=
  let c0_829 : Index := 0#32
  let c2_i32_9 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v18 : BitVec 32 := Scalar.muli c2_i32_9 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v20 : BitVec 32 := Scalar.addi v18 v19
  let c1024_i32_827 : BitVec 32 := 1024#32
  let v875 : BitVec 32 := Scalar.muli v20 c1024_i32_827
  let v876 : BitVec 32 := Scalar.addi v875 c0_i32_828
  let v877 : Index := Scalar.indexCast v876
  ![0, v877.toNat]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x2048, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.IdealMesh.lean ====
/- The mesh, the copies and the semaphores of the kernel: who a device's three neighbours are, which 32 copies it
   starts, which chunk of which buffer each of them moves, and which two semaphores count its two ends. -/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.Own

open Idealize.ShloMosaic Idealize.ShloMosaic.TcCoe
open Idealize.SL Idealize.SL.Sem
open Cert.KernelIdeal Cert.KernelIdeal.Gen

/-! ## The neighbours -/

/-- The device that differs from `d` along z. -/
def zp (d : Dev nD) : Dev nD := ⟨k0_dev1 d, k0_dev1_lt d⟩
/-- The device that differs from `d` along x. -/
def xp (d : Dev nD) : Dev nD := ⟨k0_dev2 d, k0_dev2_lt d⟩
/-- The device that differs from `d` along y. -/
def yp (d : Dev nD) : Dev nD := ⟨k0_dev3 d, k0_dev3_lt d⟩

theorem zp_zp : ∀ d, zp (zp d) = d := by decide +kernel
theorem xp_xp : ∀ d, xp (xp d) = d := by decide +kernel
theorem yp_yp : ∀ d, yp (yp d) = d := by decide +kernel

/-- Chunks of even number take the road x first. -/
def even (c : Fin 8) : Bool := c.val % 2 == 0

/-- The neighbour to which chunk `c` goes on its first road of the exchange in the plane z = const. -/
def p1 (c : Fin 8) (d : Dev nD) : Dev nD := bif even c then xp d else yp d
/-- The neighbour to which chunk `c` goes on its second road. -/
def p2 (c : Fin 8) (d : Dev nD) : Dev nD := bif even c then yp d else xp d

theorem p1_p1 (c : Fin 8) (d : Dev nD) : p1 c (p1 c d) = d := by
  unfold p1; cases even c <;> simp [xp_xp, yp_yp]
theorem p2_p2 (c : Fin 8) (d : Dev nD) : p2 c (p2 c d) = d := by
  unfold p2; cases even c <;> simp [xp_xp, yp_yp]

/-! ## The copies -/

/-- A copy that a device starts: `z c` sends chunk `c` of the other half's partial product across z; `a c` sends
    chunk `c` of its sum on the first road; `b c 0` sends the same chunk on the second road, and `b c 1` hands on
    there what `a c` has brought. -/
inductive Copy where
  | z (c : Fin 8)
  | a (c : Fin 8)
  | b (c : Fin 8) (j : Fin 2)
deriving DecidableEq

/-- The copies, listed by kind. -/
def Copy.equiv : (Fin 8 ⊕ (Fin 8 ⊕ (Fin 8 × Fin 2))) ≃ Copy where
  toFun
    | .inl c => .z c
    | .inr (.inl c) => .a c
    | .inr (.inr (c, j)) => .b c j
  invFun
    | .z c => .inl c
    | .a c => .inr (.inl c)
    | .b c j => .inr (.inr (c, j))
  left_inv := by rintro (c | c | ⟨c, j⟩) <;> rfl
  right_inv := by rintro (c | c | ⟨c, j⟩) <;> rfl

instance : Fintype Copy := Fintype.ofEquiv _ Copy.equiv

/-- Whereto a device's copy goes; likewise wherefrom the copy of that name comes. -/
def peer : Copy → Dev nD → Dev nD
  | .z _, d => zp d
  | .a c, d => p1 c d
  | .b c _, d => p2 c d

theorem peer_peer : ∀ (e : Copy) (d : Dev nD), peer e (peer e d) = d
  | .z _, d => zp_zp d
  | .a c, d => p1_p1 c d
  | .b c _, d => p2_p2 c d

/-- The eight chunks in order. -/
abbrev chunks : List (Fin 8) := [0, 1, 2, 3, 4, 5, 6, 7]

/-- Both copies of a chunk on its second road. -/
def bs (c : Fin 8) : List Copy := [.b c 0, .b c 1]

/-- The 32 copies in the order in which a device starts them. -/
def order : List Copy :=
  chunks.flatMap (fun c => [.z c]) ++ (chunks.flatMap (fun c => [.a c]) ++ (chunks.flatMap bs ++ []))

theorem order_nodup : order.Nodup := by decide
theorem mem_order : ∀ e : Copy, e ∈ order := by decide

/-! ## The memrefs -/

abbrev xM : Memref sig .tc .vmem S1024x1024 .bf16 := Memref.whole cc0_stg0_0
abbrev yM : Memref sig .tc .vmem S1024x4096 .bf16 := Memref.whole cc0_stg1_0
abbrev oM : Memref sig .tc .vmem S512x4096 .f32 := Memref.whole cc0_stg2_0
abbrev kM : Memref sig .tc .vmem S512x1024 .f32 := Memref.whole cc0_scratch0
abbrev zsM : Memref sig .tc .vmem S512x1024 .bf16 := Memref.whole cc0_scratch1
abbrev zrM : Memref sig .tc .vmem S512x1024 .bf16 := Memref.whole cc0_scratch2
abbrev wbM : Memref sig .tc .vmem S512x1024 .bf16 := Memref.whole cc0_scratch3
abbrev s1M : Memref sig .tc .vmem S512x1024 .bf16 := Memref.whole cc0_scratch4
abbrev s2M : Memref sig .tc .vmem S2x512x1024 .bf16 := Memref.whole cc0_scratch5

theorem ck_inb : ∀ (c : Fin 8) (i : Fin S512x1024.rank),
    (![0, 128 * c.val] : Fin 2 → ℕ) i + S512x128.size i ≤ S512x1024.size i := by decide
theorem cj_inb : ∀ (c : Fin 8) (j : Fin 2) (i : Fin S2x512x1024.rank),
    (![j.val, 0, 128 * c.val] : Fin 3 → ℕ) i + S1x512x128.size i ≤ S2x512x1024.size i := by decide

/-- Chunk `c` of a buffer of 1024 columns: columns 128c to 128c + 127. -/
abbrev ck (c : Fin 8) : Rect S512x1024 := Rect.unit (s := S512x1024) ![0, 128 * c.val] S512x128.size (ck_inb c)
/-- Chunk `c` of layer `j` of the two-layer buffer. -/
abbrev cj (c : Fin 8) (j : Fin 2) : Rect S2x512x1024 :=
  Rect.unit (s := S2x512x1024) ![j.val, 0, 128 * c.val] S1x512x128.size (cj_inb c j)

abbrev zsC (c : Fin 8) : Memref sig .tc .vmem S512x128 .bf16 := zsM.slice (ck c) (fun _ => rfl)
abbrev zrC (c : Fin 8) : Memref sig .tc .vmem S512x128 .bf16 := zrM.slice (ck c) (fun _ => rfl)
abbrev wbC (c : Fin 8) : Memref sig .tc .vmem S512x128 .bf16 := wbM.slice (ck c) (fun _ => rfl)
abbrev s1C (c : Fin 8) : Memref sig .tc .vmem S512x128 .bf16 := s1M.slice (ck c) (fun _ => rfl)
abbrev s2C (c : Fin 8) (j : Fin 2) : Memref sig .tc .vmem S512x128 .bf16 :=
  (s2M.slice (cj c j) (fun _ => rfl)).squeeze S512x128 squeezes_S1x512x128_S512x128

/-- What a copy reads on the device that starts it. -/
abbrev srcM : Copy → Memref sig .tc .vmem S512x128 .bf16
  | .z c => zsC c
  | .a c => wbC c
  | .b c 0 => wbC c
  | .b c 1 => s1C c
/-- What a copy writes on the device to which it goes. -/
abbrev dstM : Copy → Memref sig .tc .vmem S512x128 .bf16
  | .z c => zrC c
  | .a c => s1C c
  | .b c j => s2C c j

/-! ## The semaphores -/

/-- The semaphore that counts the departure of a copy, on the device that starts it. -/
def sndIx : Copy → DmaSem sig
  | .z c => ⟨3 + c.val, by have := c.isLt; change _ < 67; omega⟩
  | .a c => ⟨19 + c.val, by have := c.isLt; change _ < 67; omega⟩
  | .b c j => ⟨35 + (2 * c.val + j.val), by have := c.isLt; have := j.isLt; change _ < 67; omega⟩
/-- The semaphore that counts its arrival, on the device to which it goes. -/
def rcvIx : Copy → DmaSem sig
  | .z c => ⟨11 + c.val, by have := c.isLt; change _ < 67; omega⟩
  | .a c => ⟨27 + c.val, by have := c.isLt; change _ < 67; omega⟩
  | .b c j => ⟨51 + (2 * c.val + j.val), by have := c.isLt; have := j.isLt; change _ < 67; omega⟩

theorem s8_inb : ∀ (c : Fin 8) (i : Fin S8.rank), (![c.val] : Fin 1 → ℕ) i + S1.size i ≤ S8.size i := by decide
theorem s82_inb : ∀ (c : Fin 8) (j : Fin 2) (i : Fin S8x2.rank), (![c.val, j.val] : Fin 2 → ℕ) i + S1x1.size i ≤ S8x2.size i := by decide

/-- Semaphore `c` of an array of eight. -/
abbrev sem8 (m : DmaSems sig S8) (c : Fin 8) :=
  ((m.slice (Rect.unit (s := S8) ![c.val] S1.size (s8_inb c))).squeeze S_ squeezes_S1_S_).sem
/-- Semaphore `(c, j)` of an array of eight by two. -/
abbrev sem82 (m : DmaSems sig S8x2) (c : Fin 8) (j : Fin 2) :=
  ((m.slice (Rect.unit (s := S8x2) ![c.val, j.val] S1x1.size (s82_inb c j))).squeeze S_ squeezes_S1x1_S_).sem

end Cert.KernelIdeal.Own
-- ==== Proof.IdealProg.lean ====
/- The kernel's body written over the chunks: the barrier, the two products with the eight copies across z, and then
   three rounds over the eight chunks, each round one and the same text for every chunk. -/
module

public import proofs.«01_k».proof.Proof.IdealMesh

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-! ## The devices, as the program computes them -/

/-- The numbers of the devices to which the copies go, as the program computes each. -/
def devW : Copy → Dev nD → ℕ
  | .z c => ![k0_dev4, k0_dev5, k0_dev6, k0_dev7, k0_dev8, k0_dev9, k0_dev10, k0_dev11] c
  | .a c => ![k0_dev12, k0_dev13, k0_dev14, k0_dev15, k0_dev16, k0_dev17, k0_dev18, k0_dev19] c
  | .b c j => ![![k0_dev20, k0_dev21], ![k0_dev22, k0_dev23], ![k0_dev24, k0_dev25], ![k0_dev26, k0_dev27],
      ![k0_dev28, k0_dev29], ![k0_dev30, k0_dev31], ![k0_dev32, k0_dev33], ![k0_dev34, k0_dev35]] c j

/-- They are the neighbours of `peer`. -/
theorem devW_eq : ∀ (e : Copy) (d : Dev nD), devW e d = (peer e d).val := by
  have hz : ∀ (c : Fin 8) (d : Dev nD), devW (.z c) d = (peer (.z c) d).val := by decide +kernel
  have ha : ∀ (c : Fin 8) (d : Dev nD), devW (.a c) d = (peer (.a c) d).val := by decide +kernel
  have hb : ∀ (c : Fin 8) (j : Fin 2) (d : Dev nD), devW (.b c j) d = (peer (.b c j) d).val := by decide +kernel
  rintro (c | c | ⟨c, j⟩) d
  · exact hz c d
  · exact ha c d
  · exact hb c j d

theorem devW_lt (e : Copy) (d : Dev nD) : devW e d < nD := devW_eq e d ▸ (peer e d).isLt

/-- The device to which the program sends copy `e`. -/
def devOf (e : Copy) (d : Dev nD) : Dev nD := ⟨devW e d, devW_lt e d⟩

theorem devOf_eq (e : Copy) (d : Dev nD) : devOf e d = peer e d := Fin.ext (devW_eq e d)

/-! ## The windows of the result -/

/-- The offset of chunk `c` as a word. -/
abbrev w32 (c : Fin 8) : BitVec 32 := BitVec.ofNat 32 (128 * c.val)

/-- Where the chunk that comes on the first road (`true`: across x, `false`: across y) is stored. -/
def offX (s : Bool) (d : Dev nD) (c : Fin 8) : Fin 2 → ℕ := bif s then k0_off5 d (w32 c) else k0_off6 d (w32 c)

theorem offX_inb (s : Bool) (d : Dev nD) (c : Fin 8) : ∀ i, offX s d c i + S512x128.size i ≤ S512x4096.size i := by
  cases s
  · exact k0_off6_inb d c
  · exact k0_off5_inb d c

/-- The windows of chunk `c`: a device's own quarter, the two neighbours', and the quarter diagonally opposite. -/
abbrev wnO (d : Dev nD) (c : Fin 8) : Rect S512x4096 := Rect.unit (s := S512x4096) (k0_off4 d (w32 c)) S512x128.size (k0_off4_inb d c)
abbrev wnX (s : Bool) (d : Dev nD) (c : Fin 8) : Rect S512x4096 := Rect.unit (s := S512x4096) (offX s d c) S512x128.size (offX_inb s d c)
abbrev wnD (d : Dev nD) (c : Fin 8) : Rect S512x4096 := Rect.unit (s := S512x4096) (k0_off7 d (w32 c)) S512x128.size (k0_off7_inb d c)

/-! ## Accesses move whole words -/

theorem ck_words : ∀ c : Fin 8, (ck c).WholeWords (EltTy.packing .bf16)
  | 0 => wordsbf16_S512x1024_S512x128_0_0 | 1 => wordsbf16_S512x1024_S512x128_0_128
  | 2 => wordsbf16_S512x1024_S512x128_0_256 | 3 => wordsbf16_S512x1024_S512x128_0_384
  | 4 => wordsbf16_S512x1024_S512x128_0_512 | 5 => wordsbf16_S512x1024_S512x128_0_640
  | 6 => wordsbf16_S512x1024_S512x128_0_768 | 7 => wordsbf16_S512x1024_S512x128_0_896

theorem ck_packed : ∀ c : Fin 8, (ck c).PackedRows (EltTy.packing .bf16)
  | 0 => packedbf16_S512x1024_S512x128_0_0 | 1 => packedbf16_S512x1024_S512x128_0_128
  | 2 => packedbf16_S512x1024_S512x128_0_256 | 3 => packedbf16_S512x1024_S512x128_0_384
  | 4 => packedbf16_S512x1024_S512x128_0_512 | 5 => packedbf16_S512x1024_S512x128_0_640
  | 6 => packedbf16_S512x1024_S512x128_0_768 | 7 => packedbf16_S512x1024_S512x128_0_896

theorem cj_words : ∀ (c : Fin 8) (j : Fin 2), (cj c j).WholeWords (EltTy.packing .bf16)
  | 0, 0 => wordsbf16_S2x512x1024_S1x512x128_0_0_0 | 0, 1 => wordsbf16_S2x512x1024_S1x512x128_1_0_0
  | 1, 0 => wordsbf16_S2x512x1024_S1x512x128_0_0_128 | 1, 1 => wordsbf16_S2x512x1024_S1x512x128_1_0_128
  | 2, 0 => wordsbf16_S2x512x1024_S1x512x128_0_0_256 | 2, 1 => wordsbf16_S2x512x1024_S1x512x128_1_0_256
  | 3, 0 => wordsbf16_S2x512x1024_S1x512x128_0_0_384 | 3, 1 => wordsbf16_S2x512x1024_S1x512x128_1_0_384
  | 4, 0 => wordsbf16_S2x512x1024_S1x512x128_0_0_512 | 4, 1 => wordsbf16_S2x512x1024_S1x512x128_1_0_512
  | 5, 0 => wordsbf16_S2x512x1024_S1x512x128_0_0_640 | 5, 1 => wordsbf16_S2x512x1024_S1x512x128_1_0_640
  | 6, 0 => wordsbf16_S2x512x1024_S1x512x128_0_0_768 | 6, 1 => wordsbf16_S2x512x1024_S1x512x128_1_0_768
  | 7, 0 => wordsbf16_S2x512x1024_S1x512x128_0_0_896 | 7, 1 => wordsbf16_S2x512x1024_S1x512x128_1_0_896

theorem srcM_exact : ∀ e : Copy, (srcM e).view.WordExact
  | .z c => (Memref.isWhole_whole cc0_scratch1).wordExact_slice rfl _ (ck_words c)
  | .a c => (Memref.isWhole_whole cc0_scratch3).wordExact_slice rfl _ (ck_words c)
  | .b c 0 => (Memref.isWhole_whole cc0_scratch3).wordExact_slice rfl _ (ck_words c)
  | .b c 1 => (Memref.isWhole_whole cc0_scratch4).wordExact_slice rfl _ (ck_words c)

theorem dstM_exact : ∀ e : Copy, (dstM e).view.WordExact
  | .z c => (Memref.isWhole_whole cc0_scratch2).wordExact_slice rfl _ (ck_words c)
  | .a c => (Memref.isWhole_whole cc0_scratch4).wordExact_slice rfl _ (ck_words c)
  | .b c j => ((Memref.isWhole_whole cc0_scratch5).wordExact_slice rfl _ (cj_words c j)).reshape _ _

/-! ## The program -/

/-- A program of one core of the mesh. -/
abbrev Pg (F : FTy → Type) (α : Type) := Prog (TpuEff nD τ sig (Elt F) Λ₀ .tc) α

/-- The semaphores of a copy's two ends, as the program names them. -/
def sndS : Copy → DmaSem sig
  | .z c => sem8 cc0_scratch6 c
  | .a c => sem8 cc0_scratch8 c
  | .b c j => sem82 cc0_scratch10 c j
def rcvS : Copy → DmaSem sig
  | .z c => sem8 cc0_scratch7 c
  | .a c => sem8 cc0_scratch9 c
  | .b c j => sem82 cc0_scratch11 c j

theorem sndS_eq : ∀ e : Copy, sndS e = sndIx e := by
  have hz : ∀ (c : Fin 8), sndS (.z c) = sndIx (.z c) := by decide +kernel
  have ha : ∀ (c : Fin 8), sndS (.a c) = sndIx (.a c) := by decide +kernel
  have hb : ∀ (c : Fin 8) (j : Fin 2), sndS (.b c j) = sndIx (.b c j) := by decide +kernel
  rintro (c | c | ⟨c, j⟩)
  · exact hz c
  · exact ha c
  · exact hb c j
theorem rcvS_eq : ∀ e : Copy, rcvS e = rcvIx e := by
  have hz : ∀ (c : Fin 8), rcvS (.z c) = rcvIx (.z c) := by decide +kernel
  have ha : ∀ (c : Fin 8), rcvS (.a c) = rcvIx (.a c) := by decide +kernel
  have hb : ∀ (c : Fin 8) (j : Fin 2), rcvS (.b c j) = rcvIx (.b c j) := by decide +kernel
  rintro (c | c | ⟨c, j⟩)
  · exact hz c
  · exact ha c
  · exact hb c j

/-- Start copy `e`. -/
def start (d : Dev nD) (e : Copy) : Pg F PUnit :=
  Prog.lift (.enqueueDma (srcM e) (.remote (Dev.tc (devOf e d)) (dstM e) (.dma (sndS e))) (.dma (rcvS e)) (srcM_exact e) (dstM_exact e)
    ⟨⟨rfl, Or.inl rfl⟩, trivial⟩)

/-- Wait until copy `e` has left, and then until the copy of that name has arrived. -/
def land (e : Copy) : Pg F PUnit := do
  Prog.lift (.waitDma2 (sndS e) (dstM e) (srcM e) (dstM_exact e) (srcM_exact e))
  Prog.lift (.waitDma2 (rcvS e) (srcM e) (dstM e) (srcM_exact e) (dstM_exact e))

/-- Store a window of the result; the value there is read before and not used. -/
def storeO (r : Rect S512x4096) (h : 0 < r.shape.numel) (w : Vec F r.shape .f32) : Pg F PUnit := do
  let _ : Vec F r.shape .f32 ← Prog.lift (.load oM r.toLoadRect (View.loadsAt_vmem h))
  Prog.lift (.store oM r w Finset.univ (View.stores_vmem_bits_univ h rfl) (.inl rfl))

/-- One chunk of the first round: its partial sums from across z have come; the sum goes into the result and, rounded,
    on its first road. -/
def roundA (d : Dev nD) (c : Fin 8) : Pg F PUnit := do
  land (.z c)
  let u : Vec F S512x128 .f32 ← Prog.lift (.load kM (ck c).toLoadRect (View.loadsAt_vmem h_S512x128))
  let v : Vec F S512x128 .bf16 ← Prog.lift (.load zrM (ck c).toLoadRect (View.loadsAt_vmem h_S512x128))
  storeO (wnO d c) h_S512x128 (k0_pay7 u v)
  let _ : Vec F S512x128 .bf16 ← Prog.lift (.load wbM (ck c).toLoadRect (View.loadsAt_vmem h_S512x128))
  Prog.lift (.store wbM (ck c) (k0_pay8 u v) Finset.univ
    (View.stores_vmem h_S512x128 ((Memref.isWhole_whole cc0_scratch3).storeExact_slice rfl _ (ck_packed c)) (fun _ => rfl)) (.inl rfl))
  start d (.a c)

/-- One chunk of the second round: what has come on the first road goes into the result and on the second road,
    with the device's own sum. -/
def roundB (d : Dev nD) (c : Fin 8) : Pg F PUnit := do
  land (.a c)
  let v : Vec F S512x128 .bf16 ← Prog.lift (.load s1M (ck c).toLoadRect (View.loadsAt_vmem h_S512x128))
  storeO (wnX (even c) d c) h_S512x128 (k0_pay23 v)
  start d (.b c 0)
  start d (.b c 1)

/-- One chunk of the third round: what has come on the second road goes into the result. -/
def roundC (d : Dev nD) (c : Fin 8) : Pg F PUnit := do
  land (.b c 0)
  land (.b c 1)
  let u : Vec F S1x512x128 .bf16 ← Prog.lift (.load s2M (cj c 0).toLoadRect (View.loadsAt_vmem h_S1x512x128))
  storeO (wnX (!even c) d c) h_S512x128 (k0_pay1 u)
  let v : Vec F S1x512x128 .bf16 ← Prog.lift (.load s2M (cj c 1).toLoadRect (View.loadsAt_vmem h_S1x512x128))
  storeO (wnD d c) h_S512x128 (k0_pay1 v)

/-- One text for each item of a list, in order. -/
def each {A : Type} (f : A → Pg F PUnit) : List A → Pg F PUnit → Pg F PUnit
  | [], k => k
  | c :: l, k => f c >>= fun _ => each f l k

/-- The barrier. -/
def barrier (d : Dev nD) (k : Pg F PUnit) : Pg F PUnit := do
  semSignalWord (zp d) (SemArray.scalar (sig.barrier 0 rfl) : Sems sig S_).sem 1#32
  semSignalWord (xp d) (SemArray.scalar (sig.barrier 0 rfl) : Sems sig S_).sem 1#32
  semSignalWord (yp d) (SemArray.scalar (sig.barrier 0 rfl) : Sems sig S_).sem 1#32
  semWaitWord (SemArray.scalar (sig.barrier 0 rfl) : Sems sig S_).sem 3#32
  k

/-- The three rounds. -/
def rounds (d : Dev nD) : Pg F PUnit :=
  each (roundA d) chunks (each (roundB d) chunks (each (roundC d) chunks (pure ⟨⟩)))

abbrev rA (d : Dev nD) : Rect S1024x1024 := Rect.unit (s := S1024x1024) (k0_off1 d) S1024x512.size (k0_off1_inb d)
abbrev rB (d : Dev nD) : Rect S1024x1024 := Rect.unit (s := S1024x1024) (k0_off2 d) S1024x512.size (k0_off2_inb d)
abbrev rY (d : Dev nD) : Rect S1024x4096 := Rect.unit (s := S1024x4096) (k0_off3 d) S1024x1024.size (k0_off3_inb d)
abbrev r0 : Rect S512x1024 := Rect.unit (s := S512x1024) ![0, 0] S512x1024.size inb_S512x1024_S512x1024_0_0

/-- The two products: the other half's is rounded and sent across z, the own half's is kept. -/
def products (d : Dev nD) (k : Pg F PUnit) : Pg F PUnit := do
  let u : Vec F S1024x512 .bf16 ← Prog.lift (.load xM (rA d).toLoadRect (View.loadsAt_vmem h_S1024x512))
  let v : Vec F S1024x512 .bf16 ← Prog.lift (.load xM (rB d).toLoadRect (View.loadsAt_vmem h_S1024x512))
  let y : Vec F S1024x1024 .bf16 ← Prog.lift (.load yM (rY d).toLoadRect (View.loadsAt_vmem h_S1024x1024))
  let _ : Vec F S512x1024 .bf16 ← Prog.lift (.load zsM r0.toLoadRect (View.loadsAt_vmem h_S512x1024))
  Prog.lift (.store zsM r0 (k0_pay4 v y) Finset.univ
    (View.stores_vmem h_S512x1024 ((Memref.isWhole_whole cc0_scratch1).storeExact_slice rfl _ packedbf16_S512x1024_S512x1024_0_0) (fun _ => rfl)) (.inl rfl))
  each (fun c => start d (.z c)) chunks do
    let _ : Vec F S512x1024 .f32 ← Prog.lift (.load kM r0.toLoadRect (View.loadsAt_vmem h_S512x1024))
    Prog.lift (.store kM r0 (k0_pay6 (k0_pay5 (k0_pay2 u) (k0_pay3 y))) Finset.univ (View.stores_vmem_bits_univ h_S512x1024 rfl) (.inl rfl))
    k

/-- The body. -/
def body : Pg F PUnit := do
  let d : Dev nD ← Prog.lift .deviceId
  barrier d (products d (rounds d))

set_option maxRecDepth 65536 in
/-- The kernel's body is the one written over the chunks. -/
theorem body_eq (h0 h1 h2 h3 h4 h5 h6 h7 h8) :
    cc0_body (F := F) xM h0 yM h1 oM h2 kM h3 zsM h4 zrM h5 wbM h6 s1M h7 s2M h8
      cc0_scratch6 cc0_scratch7 cc0_scratch8 cc0_scratch9 cc0_scratch10 cc0_scratch11 = body := by
  rw [cc0_body_eq_skeleton]
  rfl

end Cert.KernelIdeal.Own
-- ==== Proof.IdealSched.lean ====
/- What the copies carry, what the result is, and the schedule of the kernel's semaphores: which duty each cell has,
   of how many units, and what is handed over with it. -/
module

public import proofs.«01_k».proof.Proof.IdealProg

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Two users of ghost state: the pipeline and the mesh. -/
abbrev UB : Type := URounds (GSem nD τ sig) (Fin 3)
abbrev UU : Type := UR sig nD τ × UB

/-- The resources of the proof. -/
abbrev Res (F : FTy → Type) := MT nD τ sig Unit (Elt F) ℕ UU ℕ

local notation "𝕄" => Res F

abbrev EP : Emb (UR sig nD τ) (Res F) := embL
abbrev ER : Emb UB (Res F) := embR

/-! ## The values, from each device's blocks `X` of x and `Y` of dy -/

variable (X : Dev nD → Vec F S1024x1024 .bf16) (Y : Dev nD → Vec F S1024x4096 .bf16)

/-- The half of x (columns) that device `d` keeps, the half it multiplies for its z neighbour, and its quarter of dy. -/
def keepX (d : Dev nD) : Vec F S1024x512 .bf16 := fun j => X d ((rA d).emb j)
def giveX (d : Dev nD) : Vec F S1024x512 .bf16 := fun j => X d ((rB d).emb j)
def quarterY (d : Dev nD) : Vec F S1024x1024 .bf16 := fun j => Y d ((rY d).emb j)

/-- The partial product that device `d` sends across z, and the one it keeps. -/
def ZS (d : Dev nD) : Vec F S512x1024 .bf16 := k0_pay4 (giveX X d) (quarterY Y d)
def KF (d : Dev nD) : Vec F S512x1024 .f32 := k0_pay6 (k0_pay5 (k0_pay2 (keepX X d)) (k0_pay3 (quarterY Y d)))

/-- Their chunks. -/
def ZSc (d : Dev nD) (c : Fin 8) : Vec F S512x128 .bf16 := fun j => ZS X Y d ((ck c).emb j)
def KFc (d : Dev nD) (c : Fin 8) : Vec F S512x128 .f32 := fun j => KF X Y d ((ck c).emb j)

/-- Chunk `c` of device `d`'s sum, and the same rounded. -/
def Wc (d : Dev nD) (c : Fin 8) : Vec F S512x128 .f32 := k0_pay7 (KFc X Y d c) (ZSc X Y (zp d) c)
def WBc (d : Dev nD) (c : Fin 8) : Vec F S512x128 .bf16 := k0_pay8 (KFc X Y d c) (ZSc X Y (zp d) c)

/-- What copy `e` of device `d` carries. -/
@[simp] def val : Copy → Dev nD → Vec F S512x128 .bf16
  | .z c, d => ZSc X Y d c
  | .a c, d => WBc X Y d c
  | .b c 0, d => WBc X Y d c
  | .b c 1, d => WBc X Y (p1 c d) c

/-! ## The result -/

/-- The quarter of the columns that device `d` computes. -/
def quarter (d : Dev nD) : Fin 4 := ⟨(2 * (d.val / 4) + d.val / 2 % 2) % 4, Nat.mod_lt _ (by decide)⟩
/-- The device that computes quarter `q`, at the same z as `d`. -/
def holder (q : Fin 4) (d : Dev nD) : Dev nD := ⟨(4 * (q.val / 2) + 2 * (q.val % 2) + d.val % 2) % 8, Nat.mod_lt _ (by decide)⟩

theorem wn_inb : ∀ (q : Fin 4) (c : Fin 8) (i : Fin S512x4096.rank),
    (![0, 1024 * q.val + 128 * c.val] : Fin 2 → ℕ) i + S512x128.size i ≤ S512x4096.size i := by decide

/-- The window of chunk `c` of quarter `q`. -/
abbrev wn (q : Fin 4) (c : Fin 8) : Rect S512x4096 :=
  Rect.unit (s := S512x4096) ![0, 1024 * q.val + 128 * c.val] S512x128.size (wn_inb q c)

/-- What device `d` stores in the window of chunk `c` of quarter `q`: its own sum in full precision, another device's
    as it was rounded on the road. -/
def outC (d : Dev nD) (q : Fin 4) (c : Fin 8) : Vec F S512x128 .f32 :=
  if q = quarter d then Wc X Y d c else k0_pay23 (WBc X Y (holder q d) c)

theorem k0_off4_wn : ∀ (d : Dev nD) (c : Fin 8), k0_off4 d (w32 c) = ![0, 1024 * (quarter d).val + 128 * c.val] := by decide +kernel
theorem offX_wn : ∀ (s : Bool) (d : Dev nD) (c : Fin 8),
    offX s d c = ![0, 1024 * (quarter (bif s then xp d else yp d)).val + 128 * c.val] := by decide +kernel
theorem k0_off7_wn : ∀ (d : Dev nD) (c : Fin 8), k0_off7 d (w32 c) = ![0, 1024 * (quarter (xp (yp d))).val + 128 * c.val] := by
  decide +kernel

theorem quarter_xp : ∀ d, quarter (xp d) ≠ quarter d := by decide +kernel
theorem quarter_yp : ∀ d, quarter (yp d) ≠ quarter d := by decide +kernel
theorem quarter_xy : ∀ d, quarter (xp (yp d)) ≠ quarter d := by decide +kernel
theorem holder_xp : ∀ d, holder (quarter (xp d)) d = xp d := by decide +kernel
theorem holder_yp : ∀ d, holder (quarter (yp d)) d = yp d := by decide +kernel
theorem holder_xy : ∀ d, holder (quarter (xp (yp d))) d = xp (yp d) := by decide +kernel
theorem yp_xp : ∀ d, yp (xp d) = xp (yp d) := by decide +kernel

/-- The four quarters, from a device's place: its own, the two neighbours', the one opposite. -/
def quarters (d : Dev nD) : List (Fin 4) := [quarter d, quarter (xp d), quarter (yp d), quarter (xp (yp d))]
theorem quarters_nodup : ∀ d, (quarters d).Nodup := by decide +kernel
theorem quarters_all : ∀ d, Finset.univ = (quarters d).toFinset := by decide +kernel

theorem outC_own (d : Dev nD) (c : Fin 8) : outC X Y d (quarter d) c = Wc X Y d c := if_pos rfl

theorem outC_p1 (d : Dev nD) (c : Fin 8) : outC X Y d (quarter (p1 c d)) c = k0_pay23 (val X Y (.a c) (p1 c d)) := by
  show outC X Y d (quarter (p1 c d)) c = k0_pay23 (WBc X Y (p1 c d) c)
  unfold outC p1
  cases even c
  · rw [cond_false, if_neg (quarter_yp d), holder_yp]
  · rw [cond_true, if_neg (quarter_xp d), holder_xp]

theorem outC_p2 (d : Dev nD) (c : Fin 8) : outC X Y d (quarter (p2 c d)) c = k0_pay23 (val X Y (.b c 0) (p2 c d)) := by
  show outC X Y d (quarter (p2 c d)) c = k0_pay23 (WBc X Y (p2 c d) c)
  unfold outC p2
  cases even c
  · rw [cond_false, if_neg (quarter_xp d), holder_xp]
  · rw [cond_true, if_neg (quarter_yp d), holder_yp]

theorem outC_xy (d : Dev nD) (c : Fin 8) : outC X Y d (quarter (xp (yp d))) c = k0_pay23 (val X Y (.b c 1) (p2 c d)) := by
  show outC X Y d (quarter (xp (yp d))) c = k0_pay23 (WBc X Y (p1 c (p2 c d)) c)
  unfold outC p1 p2
  rw [if_neg (quarter_xy d), holder_xy]
  cases even c
  · rw [cond_false, cond_false, yp_xp]
  · rw [cond_true, cond_true]

/-- The quarter, the chunk and the place within it of an index of the result. -/
def iq (i : S512x4096.Idx) : Fin 4 := ⟨(i 1).val / 1024 % 4, Nat.mod_lt _ (by decide)⟩
def ic (i : S512x4096.Idx) : Fin 8 := ⟨(i 1).val % 1024 / 128 % 8, Nat.mod_lt _ (by decide)⟩
def ij (i : S512x4096.Idx) : S512x128.Idx := fun a =>
  match a with
  | ⟨0, _⟩ => ⟨(i 0).val % 512, Nat.mod_lt _ (by decide)⟩
  | ⟨1, _⟩ => ⟨(i 1).val % 128, Nat.mod_lt _ (by decide)⟩

/-- The whole result of device `d`. -/
def OUT (d : Dev nD) : Vec F S512x4096 .f32 := fun i => outC X Y d (iq i) (ic i) (ij i)

theorem emb_wn (q : Fin 4) (c : Fin 8) (j : S512x128.Idx) :
    iq ((wn q c).emb j) = q ∧ ic ((wn q c).emb j) = c ∧ ij ((wn q c).emb j) = j := by
  have h0 : (((wn q c).emb j) 0).val = (j 0).val := by
    show 0 + 1 * (j 0).val = _; omega
  have h1 : (((wn q c).emb j) 1).val = 1024 * q.val + 128 * c.val + (j 1).val := by
    show (1024 * q.val + 128 * c.val) + 1 * (j 1).val = _; omega
  have hj0 : (j 0).val < 512 := (j 0).isLt
  have hj1 : (j 1).val < 128 := (j 1).isLt
  have hc := c.isLt
  have hq := q.isLt
  refine ⟨Fin.ext ?_, Fin.ext ?_, ?_⟩
  · show (((wn q c).emb j) 1).val / 1024 % 4 = q.val
    rw [h1]; omega
  · show (((wn q c).emb j) 1).val % 1024 / 128 % 8 = c.val
    rw [h1]; omega
  · funext a
    match a with
    | ⟨0, _⟩ => exact Fin.ext (show (((wn q c).emb j) 0).val % 512 = (j 0).val by rw [h0]; omega)
    | ⟨1, _⟩ => exact Fin.ext (show (((wn q c).emb j) 1).val % 128 = (j 1).val by rw [h1]; omega)

/-- On a window the result is what is stored there. -/
theorem OUT_wn (d : Dev nD) (q : Fin 4) (c : Fin 8) : (fun j => OUT X Y d ((wn q c).emb j)) = outC X Y d q c := by
  funext j
  obtain ⟨h1, h2, h3⟩ := emb_wn q c j
  unfold OUT
  rw [h1, h2, h3]

/-! ## The cells -/

/-- The barrier semaphore. -/
abbrev barS : Sem sig := (SemArray.scalar (sig.barrier 0 rfl) : Sems sig S_).sem
abbrev barCell (d : Dev nD) : GSem nD τ sig := ((d : Thread nD τ), .reg barS)
abbrev sndCell (e : Copy) (d : Dev nD) : GSem nD τ sig := ((d : Thread nD τ), .dma (sndIx e))
abbrev rcvCell (e : Copy) (d : Dev nD) : GSem nD τ sig := ((d : Thread nD τ), .dma (rcvIx e))

/-- The two ends of the copies; `false` is the departure. -/
def endIx : Copy × Bool → DmaSem sig
  | (e, false) => sndIx e
  | (e, true) => rcvIx e

/-- The end that a semaphore counts, if any. -/
def who (q : DmaSem sig) : Option (Copy × Bool) :=
  (order.map (fun e => (e, false)) ++ order.map (fun e => (e, true))).find? fun p => endIx p == q

theorem who_ends : (order.map (fun e => (e, false)) ++ order.map (fun e => (e, true))).all (fun p => who (endIx p) == some p) = true := by
  decide +kernel
theorem who_end (p : Copy × Bool) : who (endIx p) = some p := by
  have h := List.all_eq_true.mp who_ends p (by
    rcases p with ⟨e, b⟩
    cases b
    · exact List.mem_append_left _ (List.mem_map_of_mem (mem_order e))
    · exact List.mem_append_right _ (List.mem_map_of_mem (mem_order e)))
  exact beq_iff_eq.mp h
theorem who_snd (e : Copy) : who (sndIx e) = some (e, false) := who_end (e, false)
theorem who_rcv (e : Copy) : who (rcvIx e) = some (e, true) := who_end (e, true)

/-- The units that a copy's semaphores count. -/
abbrev N : ℕ := (zrC 0).view.dmaCredit
theorem N_pos : 0 < N := View.dmaCredit_pos _ (by decide)
theorem srcM_credit : ∀ e : Copy, (srcM e).view.dmaCredit = N
  | .z _ => rfl | .a _ => rfl | .b _ 0 => rfl | .b _ 1 => rfl
theorem dstM_credit : ∀ e : Copy, (dstM e).view.dmaCredit = N
  | .z _ => rfl | .a _ => rfl | .b _ _ => rfl

/-! ## What is handed over -/

/-- Device `d`'s place for copy `e`, at any contents. -/
def place (e : Copy) (d : Dev nD) : sProp 𝕄 := iprop(∃ v, owns (d : Thread nD τ) (dstM e) fullShare v)
/-- The place to which device `d`'s copy `e` goes. -/
def dest (e : Copy) (d : Dev nD) : sProp 𝕄 := place e (peer e d)
/-- The places of both copies of chunk `c` on its second road. -/
def dest2 (c : Fin 8) (d : Dev nD) : sProp 𝕄 := iprop(dest (.b c 0) d ∗ dest (.b c 1) d)

theorem dest_peer (e : Copy) (d : Dev nD) : (dest e (peer e d) : sProp 𝕄) = place e d := by unfold dest; rw [peer_peer]

/-- What comes with a unit of device `d`'s barrier: the places, on the neighbour that signals, of the copies that `d`
    sends there. -/
def barPay (d : Dev nD) : Fin 3 → sProp 𝕄
  | 0 => bigSep Finset.univ fun c : Fin 8 => dest (.z c) d
  | 1 => bigSep Finset.univ fun c : Fin 8 => bif even c then dest (.a c) d else dest2 c d
  | 2 => bigSep Finset.univ fun c : Fin 8 => bif even c then dest2 c d else dest (.a c) d
/-- What comes back when copy `e` has left: what it read. -/
def sndPay (e : Copy) (d : Dev nD) : sProp 𝕄 := owns (d : Thread nD τ) (srcM e) fullShare (val X Y e d)
/-- What comes when the copy of name `e` has arrived: its place, written. -/
def rcvPay (e : Copy) (d : Dev nD) : sProp 𝕄 := owns (d : Thread nD τ) (dstM e) fullShare (val X Y e (peer e d))

instance place_storable (e : Copy) (d : Dev nD) : BI.Storable (upEmb : UEmb _ 𝕄) (place (F := F) e d) := by unfold place; infer_instance
instance dest_storable (e : Copy) (d : Dev nD) : BI.Storable (upEmb : UEmb _ 𝕄) (dest (F := F) e d) := by unfold dest; infer_instance
instance dest2_storable (c : Fin 8) (d : Dev nD) : BI.Storable (upEmb : UEmb _ 𝕄) (dest2 (F := F) c d) := by unfold dest2; infer_instance
instance cond_storable (b : Bool) (P Q : sProp 𝕄) [BI.Storable (upEmb : UEmb _ 𝕄) P] [BI.Storable (upEmb : UEmb _ 𝕄) Q] :
    BI.Storable (upEmb : UEmb _ 𝕄) (bif b then P else Q) := by cases b <;> assumption
instance barPay_storable (d : Dev nD) (t : Fin 3) : BI.Storable (upEmb : UEmb _ 𝕄) (barPay (F := F) d t) := by
  match t with
  | 0 => unfold barPay; infer_instance
  | 1 => unfold barPay; infer_instance
  | 2 => unfold barPay; infer_instance
instance sndPay_storable (e : Copy) (d : Dev nD) : BI.Storable (upEmb : UEmb _ 𝕄) (sndPay X Y e d) := by unfold sndPay; infer_instance
instance rcvPay_storable (e : Copy) (d : Dev nD) : BI.Storable (upEmb : UEmb _ 𝕄) (rcvPay X Y e d) := by unfold rcvPay; infer_instance

/-! ## The schedule -/

/-- The duties of a semaphore: three at the barrier, one at each end of a copy. -/
def dutiesOf : SemLoc sig → Finset (Fin 3)
  | .reg s => if s = barS then Finset.univ else ∅
  | .dma q => if (who q).isSome then {0} else ∅

def amountOf : SemLoc sig → ℕ
  | .reg _ => 1
  | .dma _ => N

/-- What comes with the credit of one end of a copy. -/
def payEnd (d : Dev nD) : Option (Copy × Bool) → sProp 𝕄
  | some (e, false) => sndPay X Y e d
  | some (e, true) => rcvPay X Y e d
  | none => iprop(emp)

def payOf (d : Dev nD) : SemLoc sig → Fin 3 → sProp 𝕄
  | .reg _, t => barPay d t
  | .dma q, _ => payEnd X Y d (who q)

/-- One round. -/
def meshRd : Rounds.Schedule (GSem nD τ sig) (Fin 3) 𝕄 where
  duties g r := if r = 0 ∧ g.1.2 = .tc then dutiesOf g.2 else ∅
  unitless _ := False
  amount g _ _ := amountOf g.2
  payload g _ t := payOf X Y g.1.1 g.2 t
  amount_pos g _ _ _ := by
    rcases g with ⟨g1, s | q⟩
    · exact Nat.one_pos
    · exact N_pos

instance meshRd_storable (g : GSem nD τ sig) (r : ℕ) (t : Fin 3) :
    BI.Storable (upEmb : UEmb _ 𝕄) ((meshRd X Y).payload g r t) := by
  rcases g with ⟨g1, s | q⟩
  · show BI.Storable upEmb (barPay g1.1 t)
    infer_instance
  · show BI.Storable upEmb (payEnd X Y g1.1 (who q))
    unfold payEnd
    split <;> infer_instance

theorem duties_bar (d : Dev nD) : (meshRd X Y).duties (barCell d) 0 = Finset.univ := by
  dsimp only [meshRd, dutiesOf]; rw [if_pos ⟨rfl, rfl⟩, if_pos rfl]
theorem duties_snd (e : Copy) (d : Dev nD) : (meshRd X Y).duties (sndCell e d) 0 = {0} := by
  dsimp only [meshRd, dutiesOf]; rw [if_pos ⟨rfl, rfl⟩, who_snd]; rfl
theorem duties_rcv (e : Copy) (d : Dev nD) : (meshRd X Y).duties (rcvCell e d) 0 = {0} := by
  dsimp only [meshRd, dutiesOf]; rw [if_pos ⟨rfl, rfl⟩, who_rcv]; rfl
theorem duties_later (g : GSem nD τ sig) : ∀ r, 1 ≤ r → (meshRd X Y).duties g r = ∅ :=
  fun r hr => if_neg fun h => by have := h.1; omega

theorem expect_bar (d : Dev nD) : (meshRd X Y).expect (barCell d) 0 = 3 := by
  unfold Schedule.expect Schedule.amountOf
  rw [duties_bar]; rfl
theorem expect_snd (e : Copy) (d : Dev nD) : (meshRd X Y).expect (sndCell e d) 0 = N := by
  unfold Schedule.expect Schedule.amountOf
  rw [duties_snd, Finset.sum_singleton]; rfl
theorem expect_rcv (e : Copy) (d : Dev nD) : (meshRd X Y).expect (rcvCell e d) 0 = N := by
  unfold Schedule.expect Schedule.amountOf
  rw [duties_rcv, Finset.sum_singleton]; rfl

theorem payload_snd (e : Copy) (d : Dev nD) (t : Fin 3) : (meshRd X Y).payload (sndCell e d) 0 t = sndPay X Y e d := by
  show payEnd X Y d (who (sndIx e)) = _
  rw [who_snd]; rfl
theorem payload_rcv (e : Copy) (d : Dev nD) (t : Fin 3) : (meshRd X Y).payload (rcvCell e d) 0 t = rcvPay X Y e d := by
  show payEnd X Y d (who (rcvIx e)) = _
  rw [who_rcv]; rfl

theorem rest_bar (d : Dev nD) : bigSep ((meshRd X Y).duties (barCell d) 0 \ ∅) (fun t => (meshRd X Y).payload (barCell d) 0 t)
    = iprop(barPay d 0 ∗ barPay d 1 ∗ barPay d 2) := by
  rw [Finset.sdiff_empty, duties_bar, bigSep_univ_eq_bigSepL [(0 : Fin 3), 1, 2] (by decide) (by decide), bigSepL_cons_cons,
    bigSepL_cons_cons, bigSepL_singleton]
  rfl
theorem rest_snd (e : Copy) (d : Dev nD) : bigSep ((meshRd X Y).duties (sndCell e d) 0 \ ∅) (fun t => (meshRd X Y).payload (sndCell e d) 0 t)
    = sndPay X Y e d := by
  rw [Finset.sdiff_empty, duties_snd, bigSep_singleton, payload_snd]
theorem rest_rcv (e : Copy) (d : Dev nD) : bigSep ((meshRd X Y).duties (rcvCell e d) 0 \ ∅) (fun t => (meshRd X Y).payload (rcvCell e d) 0 t)
    = rcvPay X Y e d := by
  rw [Finset.sdiff_empty, duties_rcv, bigSep_singleton, payload_rcv]

/-! ## What a device owes, and the levels -/

/-- The arrivals that device `d` owes for the copies of a list, the first one last. -/
def due (d : Dev nD) : List Copy → CellTallies nD τ sig Unit
  | [] => 0
  | e :: l => due d l + tallyAt (rcvCell e (peer e d)) () N

/-- All that device `d` owes at the start: the arrivals and a unit to each neighbour's barrier. -/
def owed3 (d : Dev nD) : CellTallies nD τ sig Unit := due d order + tallyAt (barCell (yp d)) () 1
def owed2 (d : Dev nD) : CellTallies nD τ sig Unit := owed3 d + tallyAt (barCell (xp d)) () 1
def owed (d : Dev nD) : CellTallies nD τ sig Unit := owed2 d + tallyAt (barCell (zp d)) () 1

/-- Cells with an index: those of the cores. -/
def L (g : GSem nD τ sig) : Finset Unit := if g.1.2 = .tc then {()} else ∅

/-- The level of a copy's arrival. -/
def rank : Copy → ℕ
  | .z _ => 2
  | .a _ => 3
  | .b _ _ => 4

/-- The levels: departures and the pipeline's own copies 0, the barrier 1, the arrivals by the round of the copy. -/
def lvEnd : Option (Copy × Bool) → ℕ
  | some (e, true) => rank e
  | some (_, false) => 0
  | none => 0
def lvOf : SemLoc sig → ℕ
  | .reg _ => 1
  | .dma q => lvEnd (who q)
def lv (g : GSem nD τ sig) (_ : Unit) : ℕ := lvOf g.2

theorem lv_snd (e : Copy) : lvOf (.dma (sndIx e)) = 0 := by show lvEnd (who (sndIx e)) = 0; rw [who_snd]; rfl
theorem lv_rcv (e : Copy) : lvOf (.dma (rcvIx e)) = rank e := by show lvEnd (who (rcvIx e)) = rank e; rw [who_rcv]; rfl

theorem L_of_ne (g : GSem nD τ sig) (h : g.1.2 ≠ .tc) : L g = ∅ := if_neg h
theorem L_tc (d : Dev nD) (sm : SemLoc sig) : L ((d : Thread nD τ), sm) = {()} := if_pos rfl

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem due_pos {d : Dev nD} {l : List Copy} {g : GSem nD τ sig} {u : Unit} (h : 0 < due d l g u) :
    ∃ e ∈ l, g = rcvCell e (peer e d) := by
  induction l with
  | nil => exact absurd h (Nat.lt_irrefl 0)
  | cons e l ih =>
    unfold due at h
    rw [Pi.add_apply, Finsupp.add_apply] at h
    rcases Nat.eq_zero_or_pos (due d l g u) with h0 | h0
    · rw [h0, Nat.zero_add] at h
      exact ⟨e, List.mem_cons_self, tally_pos h⟩
    · obtain ⟨e', he', hg⟩ := ih h0
      exact ⟨e', List.mem_cons_of_mem _ he', hg⟩

theorem owed_pos {d : Dev nD} {g : GSem nD τ sig} {u : Unit} (h : 0 < owed d g u) :
    (∃ e, g = rcvCell e (peer e d)) ∨ ∃ n, g = barCell n := by
  unfold owed owed2 owed3 at h
  simp only [Pi.add_apply, Finsupp.add_apply] at h
  by_contra hn
  rw [not_or] at hn
  have h1 : due d order g u = 0 := by
    by_contra h0
    obtain ⟨e, -, hg⟩ := due_pos (Nat.pos_of_ne_zero h0)
    exact hn.1 ⟨e, hg⟩
  have h2 : ∀ n : Dev nD, tallyAt (barCell n) () 1 g u = 0 := fun n => by
    by_contra h0
    exact hn.2 ⟨n, tally_pos (Nat.pos_of_ne_zero h0)⟩
  rw [h1, h2, h2, h2] at h
  exact Nat.lt_irrefl 0 h

/-- A device may wait at a cell below all the arrivals it still owes. -/
theorem mayWait_due (d : Dev nD) (sm : SemLoc sig) (l : List Copy) (h : ∀ e ∈ l, lvOf sm < rank e) :
    (levAts L lv : sProp 𝕄) ⊢ MayWait (d : Thread nD τ) sm () (due d l) :=
  MayOwe.of_cut (L := L) (lev := lv) (lvOf sm)
    (fun p hp => by rw [Finset.mem_singleton.mp hp, L_tc]; exact Finset.mem_singleton_self _)
    (fun g u hg => by obtain ⟨e, -, rfl⟩ := due_pos hg; exact Finset.mem_singleton_self _)
    (fun p hp => by rw [Finset.mem_singleton.mp hp]; exact Nat.le_refl _)
    (fun g u hg => by
      obtain ⟨e, he, rfl⟩ := due_pos hg
      show _ < lvOf (.dma (rcvIx e))
      rw [lv_rcv]; exact h e he)

/-- A device may wait for the pipeline's own copies at any time. -/
theorem mayWait_stage (d : Dev nD) (q : DmaSem sig) (hq : lvOf (.dma q) = 0) (O : CellTallies nD τ sig Unit) (hO : O = owed d ∨ O = 0) :
    (levAts L lv : sProp 𝕄) ⊢ MayWait (d : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases owed_pos hg with ⟨e, rfl⟩ | ⟨n, rfl⟩ <;> exact Finset.mem_singleton_self _)
      (fun p hp => by rw [Finset.mem_singleton.mp hp]; exact Nat.le_of_eq hq)
      (fun g u hg => by
        rcases owed_pos hg with ⟨e, rfl⟩ | ⟨n, rfl⟩
        · show 0 < lvOf (.dma (rcvIx e))
          rw [lv_rcv]; cases e <;> exact Nat.succ_pos _
        · exact Nat.one_pos)
  · rw [MayWait_zero]; iintro -; iempintro

end Cert.KernelIdeal.Own
-- ==== Proof.IdealSteps.lean ====
/- The kernel's steps: loads and stores of windows, the start of a copy and the two waits for it, and one chunk of each
   of the three rounds. -/
module

public import proofs.«01_k».proof.Proof.IdealSched

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

abbrev 𝒱₀ : Variants := Variants.none

/-- Program `p` of device `d` may run to `Q`. -/
abbrev WP {α : Type} (d : Dev nD) (p : Pg F α) (Q : α → sProp 𝕄) : sProp 𝕄 :=
  wp frame (wpE (defs₀ (F := F)) 𝒱₀ (d : Thread nD τ) none) Set.univ p Q

/-! ## Loads and stores -/

/-- A load of a window that is owned. -/
theorem wp_load_owns (d : Dev nD) {s : Shape} {e : EltTy} (m : Memref sig .tc .vmem s e) (r : Rect s) (hr : ∀ a, r.stride a = 1)
    {hl : m.view.LoadsAt r.toLoadRect} (v : r.shape.Idx → Elt F e) (Q : (r.shape.Idx → Elt F e) → sProp 𝕄) :
    (owns (d : Thread nD τ) (m.slice r hr) fullShare v : sProp 𝕄)
      ⊢ iprop((owns (d : Thread nD τ) (m.slice r hr) fullShare v -∗ Q v) -∗ WP d (Prog.lift (.load m r.toLoadRect hl)) Q) := by
  unfold owns
  iintro ⟨%f, %hf, H⟩ HQ
  unfold WP Prog.lift
  iapply (wp_load_rect 𝒱₀ (d : Thread nD τ) none Set.univ (m := m) (r := r) (Finset.Subset.refl _)) $$ H
  iintro H
  rw [wp_ret]; imodintro
  subst hf
  iapply HQ
  iexists f
  isplitr; · ipureintro; rfl
  iexact H

/-- A load of a layer of a window that is owned without that axis: what is loaded, the axis dropped, is what is owned. -/
theorem wp_load_layer (d : Dev nD) {s s' : Shape} {e : EltTy} (m : Memref sig .tc .vmem s e) (r : Rect s) (hr : ∀ a, r.stride a = 1)
    (hs : r.shape.Squeezes s') {hl : m.view.LoadsAt r.toLoadRect} (v : s'.Idx → Elt F e) (Q : (r.shape.Idx → Elt F e) → sProp 𝕄) :
    (owns (d : Thread nD τ) ((m.slice r hr).squeeze s' hs) fullShare v : sProp 𝕄)
      ⊢ iprop((∀ u, ⌜(fun j => u (Shape.reshapeEquiv hs.numel_eq j)) = v⌝
            -∗ owns (d : Thread nD τ) ((m.slice r hr).squeeze s' hs) fullShare v -∗ Q u) -∗ WP d (Prog.lift (.load m r.toLoadRect hl)) Q) := by
  unfold owns
  iintro ⟨%f, %hf, H⟩ HQ
  unfold WP Prog.lift
  iapply (wp_load_rect 𝒱₀ (d : Thread nD τ) none Set.univ (m := m) (r := r) (S := ((m.slice r hr).squeeze s' hs).view.set)
    (Finset.Subset.antisymm_iff.mp (View.set_reshape _ _)).2) $$ H
  iintro H
  rw [wp_ret]; imodintro
  iapply HQ $$ %_ [] [H]
  · ipureintro; exact hf
  · iexists f
    isplitr; · ipureintro; exact hf
    iexact H

/-- A store of a window that is owned. -/
theorem wp_store_owns (d : Dev nD) {s : Shape} {e : EltTy} (m : Memref sig .tc .vmem s e) (r : Rect s) (hr : ∀ a, r.stride a = 1)
    (w : r.shape.Idx → Elt F e) {hx : (m.access r).Stores Finset.univ} {hm : Finset.univ = Finset.univ ∨ ∀ a, r.stride a = 1}
    (v : r.shape.Idx → Elt F e) (Q : PUnit → sProp 𝕄) :
    (owns (d : Thread nD τ) (m.slice r hr) fullShare v : sProp 𝕄)
      ⊢ iprop((owns (d : Thread nD τ) (m.slice r hr) fullShare w -∗ Q ⟨⟩) -∗ WP d (Prog.lift (.store m r w Finset.univ hx hm)) Q) := by
  unfold owns
  iintro ⟨%f, %hf, H⟩ HQ
  unfold WP Prog.lift
  iapply (wp_store 𝒱₀ (d : Thread nD τ) none Set.univ (m := m) (r := r) (Mk := Finset.univ) (S := (m.slice r hr).view.set)
    (Finset.Subset.antisymm_iff.mp (View.setOn_univ _)).1) $$ H
  iintro H
  rw [wp_ret]; imodintro
  iapply HQ
  iexists _
  isplitr
  rotate_left
  · iexact H
  · ipureintro; exact View.read_write_univ _ _

/-- A window of the result at any contents. -/
def hole (d : Dev nD) (r : Rect S512x4096) (hr : ∀ a, r.stride a = 1) : sProp 𝕄 := iprop(∃ v, owns (d : Thread nD τ) (oM.slice r hr) fullShare v)

/-- A store of a window of the result. -/
theorem wp_storeO (d : Dev nD) (r : Rect S512x4096) (hr : ∀ a, r.stride a = 1) (h : 0 < r.shape.numel) (w : Vec F r.shape .f32)
    (Q : PUnit → sProp 𝕄) :
    (hole d r hr : sProp 𝕄) ⊢ iprop((owns (d : Thread nD τ) (oM.slice r hr) fullShare w -∗ Q ⟨⟩) -∗ WP d (storeO r h w) Q) := by
  unfold hole
  iintro ⟨%v, H⟩ HQ
  unfold storeO WP
  rw [wp_bind]
  iapply (wp_load_owns d oM r hr v) $$ H
  iintro H
  iapply (wp_store_owns d oM r hr w v) $$ H
  iexact HQ

/-! ## The ghost state -/

variable (X : Dev nD → Vec F S1024x1024 .bf16) (Y : Dev nD → Vec F S1024x4096 .bf16)

/-- The cells of a device: its barrier, and both ends of its copies. -/
abbrev Slot : Type := Option (Copy × Bool)
abbrev slotSem : Slot → SemLoc sig
  | none => .reg barS
  | some p => .dma (endIx p)
abbrev kcell (x : Dev nD × Slot) : GSem nD τ sig := ((x.1 : Thread nD τ), slotSem x.2)

variable (K : Dev nD × Slot → ℕ)

/-- What every device knows: every cell's invariant, and that every cell has reached round 0. -/
def records : sProp 𝕄 := bigSep Finset.univ fun x : Dev nD × Slot => iprop(cellInv ER (meshRd X Y) (K x) (kcell x) ∗ reached ER (kcell x) 0)

instance records_persistent : BI.Persistent (records X Y K) := by unfold records; infer_instance

theorem records_at (x : Dev nD × Slot) : records X Y K ⊢ iprop(cellInv ER (meshRd X Y) (K x) (kcell x) ∗ reached ER (kcell x) 0) :=
  bigSep_elim (Finset.mem_univ x)

/-- What every device knows, with the levels. -/
def ctx : sProp 𝕄 := iprop(records X Y K ∗ levAts L lv)
instance ctx_persistent : BI.Persistent (ctx X Y K) := by unfold ctx; infer_instance

/-- What device `d` owes, whatever it has waited for. -/
def owesAny (d : Dev nD) (O : CellTallies nD τ sig Unit) : sProp 𝕄 := iprop(∃ W, owes (d : Thread nD τ) O W)

/-- What device `d` holds to start copy `e` and to wait for it: the right to pay at both ends, its positions at its own
    two cells, and the credit to wait for the arrival. -/
def kit (e : Copy) (d : Dev nD) : sProp 𝕄 :=
  iprop(dutyTok ER (sndCell e d) 0 0 ∗ dutyTok ER (rcvCell e (peer e d)) 0 0
    ∗ atPos ER (sndCell e d) 0 ∅ 0 ∗ atPos ER (rcvCell e d) 0 ∅ 0 ∗ cred (tallyAt (rcvCell e d) () N))

/-- Copy `e` under way. -/
def flight (e : Copy) (d : Dev nD) : sProp 𝕄 :=
  iprop(atPos ER (sndCell e d) 0 ∅ 0 ∗ atPos ER (rcvCell e d) 0 ∅ 0 ∗ cred (tallyAt (rcvCell e d) () N) ∗ cred (tallyAt (sndCell e d) () N))

/-- The two counters of copy `e` at zero. -/
def zeros (e : Copy) (d : Dev nD) : sProp 𝕄 := iprop(semVal (sndCell e d) 0 ∗ semVal (rcvCell e d) 0)

/-! ## Starting a copy and waiting for it -/

/-- The start of a copy, its device and semaphores named otherwise: what it reads and the place to which it goes are
    given up. -/
theorem wp_start_at (d : Dev nD) (e : Copy) (n : Dev nD) (s t : DmaSem sig) (hn : n = peer e d) (hs : s = sndIx e) (ht : t = rcvIx e)
    {hsc : (dstM e : Memref sig (Dev.tc n : Thread nD τ).2.kind .vmem S512x128 .bf16).view.ref.isScScratch = false}
    {hsem : DmaTarget.Typed .vmem (.dma t) (.remote (Dev.tc n : Thread nD τ) (dstM e : Memref sig .tc .vmem S512x128 .bf16) (.dma s) hsc)}
    (l : List Copy) (Q : PUnit → sProp 𝕄) :
    iprop(ctx X Y K ∗ kit e d ∗ owns (d : Thread nD τ) (srcM e) fullShare (val X Y e d) ∗ dest e d ∗ owesAny d (due d (e :: l)))
      ⊢ iprop((flight e d ∗ owesAny d (due d l) -∗ Q ⟨⟩) -∗ WP d
          (Prog.lift (.enqueueDma (srcM e) (.remote (Dev.tc n : Thread nD τ) (dstM e) (.dma s) hsc) (.dma t) (srcM_exact e) (dstM_exact e) hsem)) Q) := by
  subst hn hs ht
  unfold WP Prog.lift
  unfold ctx kit dest place owesAny owns
  iintro ⟨⟨#HR, #HL⟩, ⟨HtS, HtR, HaS, HaR, HcR⟩, ⟨%fs, %hfs, Hs⟩, ⟨%v, %fd, %hfd, Hd⟩, ⟨%W, HO⟩⟩ HQ
  ihave #HS := (records_at X Y K (d, some (e, false))) $$ HR
  ihave #HD := (records_at X Y K (peer e d, some (e, true))) $$ HR
  icases HS with ⟨#HIS, #HrS⟩
  icases HD with ⟨#HID, #HrD⟩
  iapply (Rounds.wp_send_pointsTo 𝒱₀ ER (meshRd X Y) (d : Thread nD τ) none (c' := (peer e d : Thread nD τ))
      (src := srcM e) (dst := dstM e) (sS := .dma (sndIx e)) (sem := .dma (rcvIx e))
      (κ₁ := K (d, some (e, false))) (κ₂ := K (peer e d, some (e, true)))
      (r₁ := 0) (r₂ := 0) (d₁ := 0) (d₂ := 0) (fs := fs) (fd := fd)
      (by rw [duties_snd]; exact Finset.mem_singleton_self _) (by rw [duties_rcv]; exact Finset.mem_singleton_self _)
      () () N (show (dstM e).view.amount (.dma (rcvIx e)) = N from dstM_credit e) rfl rfl (due d l) rfl (W := W)
      (by
        rw [payload_snd]; unfold sndPay owns
        iintro H; iexists fs
        isplitr; · ipureintro; exact hfs
        iexact H)
      (by
        rw [payload_rcv]; unfold rcvPay owns
        iintro H; iexists _
        isplitr
        rotate_left
        · iexact H
        · ipureintro; rw [View.read_write_univ, hfs, peer_peer])) $$ [Hs Hd HO HtS HtR]
  · isplitr; · iexact HIS
    isplitr; · iexact HID
    isplitl [Hs]; · iexact Hs
    isplitl [Hd]; · iexact Hd
    isplitl [HO]; · iexact HO
    isplitl [HtS]; · iexact HtS
    isplitr; · iexact HrS
    isplitl [HtR]; · iexact HtR
    iexact HrD
  iintro ⟨HcS, HO⟩
  rw [wp_ret]; imodintro
  iapply HQ
  unfold flight
  isplitr [HO]
  · isplitl [HaS]; · iexact HaS
    isplitl [HaR]; · iexact HaR
    isplitl [HcR]; · iexact HcR
    iexact HcS
  iexists W
  iexact HO

/-- The start of a copy. -/
theorem wp_start (d : Dev nD) (e : Copy) (l : List Copy) (Q : PUnit → sProp 𝕄) :
    iprop(ctx X Y K ∗ kit e d ∗ owns (d : Thread nD τ) (srcM e) fullShare (val X Y e d) ∗ dest e d ∗ owesAny d (due d (e :: l)))
      ⊢ iprop((flight e d ∗ owesAny d (due d l) -∗ Q ⟨⟩) -∗ WP d (start d e) Q) :=
  wp_start_at X Y K d e (devOf e d) (sndS e) (rcvS e) (devOf_eq e d) (sndS_eq e) (rcvS_eq e) l Q

/-- Both waits for a copy: what it has read comes back, and the place of the copy of that name comes, written. -/
theorem wp_land (d : Dev nD) (e : Copy) (l : List Copy) (hl : ∀ e' ∈ l, rank e < rank e') (Q : PUnit → sProp 𝕄) :
    iprop(ctx X Y K ∗ flight e d ∗ owesAny d (due d l))
      ⊢ iprop((sndPay X Y e d ∗ rcvPay X Y e d ∗ zeros e d ∗ owesAny d (due d l) -∗ Q ⟨⟩) -∗ WP d (land e) Q) := by
  unfold WP land
  rw [wp_bind]
  unfold Prog.lift
  generalize hs : sndS e = s
  rw [sndS_eq] at hs
  subst hs
  generalize ht : rcvS e = t
  rw [rcvS_eq] at ht
  subst ht
  unfold ctx flight owesAny
  iintro ⟨⟨#HR, #HL⟩, ⟨HaS, HaR, HcR, HcS⟩, ⟨%W, HO⟩⟩ HQ
  ihave #HS := (records_at X Y K (d, some (e, false))) $$ HR
  ihave #HD := (records_at X Y K (d, some (e, true))) $$ HR
  icases HS with ⟨#HIS, #HrS⟩
  icases HD with ⟨#HID, #HrD⟩
  iapply (Rounds.wp_wait_rest_token 𝒱₀ ER (meshRd X Y) (d : Thread nD τ) none (κ := K (d, some (e, false)))
      (wpE_waitDma2_eq 𝒱₀ (d : Thread nD τ) none Set.univ) (Set.mem_univ _) () (O := due d l) (W := W) (R := 0) (m := 0) (T := ∅)
      (by rw [Nat.zero_add, expect_snd, srcM_credit])) $$ [HcS HO HaS]
  · isplitr; · iexact HIS
    isplitl [HcS]; · rw [srcM_credit]; iexact HcS
    isplitl [HO]; · iexact HO
    isplitr; · iapply (mayWait_due d (.dma (sndIx e)) l (fun e' he' => by rw [lv_snd]; exact Nat.lt_of_le_of_lt (Nat.zero_le _) (hl e' he'))); iexact HL
    iexact HaS
  iintro ⟨HO, HaS, -, Hpay⟩
  ihave Hsrc := (Entails.of_eq (rest_snd X Y e d)) $$ Hpay
  rw [wp_ret]; imodintro
  iapply (Rounds.wp_wait_rest_token 𝒱₀ ER (meshRd X Y) (d : Thread nD τ) none (κ := K (d, some (e, true)))
      (wpE_waitDma2_eq 𝒱₀ (d : Thread nD τ) none Set.univ) (Set.mem_univ _) () (O := due d l) (R := 0) (m := 0) (T := ∅)
      (by rw [Nat.zero_add, expect_rcv, dstM_credit])) $$ [HcR HO HaR]
  · isplitr; · iexact HID
    isplitl [HcR]; · rw [dstM_credit]; iexact HcR
    isplitl [HO]; · iexact HO
    isplitr; · iapply (mayWait_due d (.dma (rcvIx e)) l (fun e' he' => by rw [lv_rcv]; exact hl e' he')); iexact HL
    iexact HaR
  iintro ⟨HO, HaR, -, Hpay⟩
  ihave Hdst := (Entails.of_eq (rest_rcv X Y e d)) $$ Hpay
  imod (Rounds.cell_close ER (meshRd X Y) (Set.mem_univ (K (d, some (e, false)))) (fun h => h) (R := 0 + 1) (duties_later X Y (sndCell e d))) $$ [HaS] with HzS
  · isplitr; · iexact HIS
    iexact HaS
  imod (Rounds.cell_close ER (meshRd X Y) (Set.mem_univ (K (d, some (e, true)))) (fun h => h) (R := 0 + 1) (duties_later X Y (rcvCell e d))) $$ [HaR] with HzR
  · isplitr; · iexact HID
    iexact HaR
  rw [wp_ret]; imodintro
  iapply HQ
  isplitl [Hsrc]; · iexact Hsrc
  isplitl [Hdst]; · iexact Hdst
  isplitl [HzS HzR]
  · unfold zeros
    isplitl [HzS]; · iexact HzS
    iexact HzR
  iexists _
  iexact HO

end Cert.KernelIdeal.Own
-- ==== Proof.IdealRounds.lean ====
/- One chunk of each of the three rounds, and a round over all the chunks. -/
module

public import proofs.«01_k».proof.Proof.IdealSteps
public import Idealize.ShloMosaic.Lib.Pipeline.BigSepL

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

/-! ## Windows -/

/-- The window of chunk `c` of quarter `q` of device `d`'s result, holding `v`. -/
def win (d : Dev nD) (q : Fin 4) (c : Fin 8) (v : Vec F S512x128 .f32) : sProp 𝕄 :=
  owns (d : Thread nD τ) (oM.slice (wn q c) (fun _ => rfl)) fullShare v

/-- The same at any contents. -/
def winAny (d : Dev nD) (q : Fin 4) (c : Fin 8) : sProp 𝕄 := iprop(∃ v, win d q c v)

/-- A store of a window, its offsets computed otherwise. -/
theorem wp_storeW (d : Dev nD) (q : Fin 4) (c : Fin 8) (off : Fin 2 → ℕ) (ho : off = ![0, 1024 * q.val + 128 * c.val])
    (inb : ∀ i, off i + S512x128.size i ≤ S512x4096.size i) (w : Vec F S512x128 .f32) (Q : PUnit → sProp 𝕄) :
    (winAny d q c : sProp 𝕄)
      ⊢ iprop((win d q c w -∗ Q ⟨⟩) -∗ WP d (storeO (Rect.unit (s := S512x4096) off S512x128.size inb) h_S512x128 w) Q) := by
  subst ho
  exact wp_storeO d (wn q c) (fun _ => rfl) h_S512x128 w Q

/-- A load of a part of a memref that is owned. -/
theorem wp_load_part (d : Dev nD) {s : Shape} {e : EltTy} (m : Memref sig .tc .vmem s e) (r : Rect s)
    {hl : m.view.LoadsAt r.toLoadRect} (v : s.Idx → Elt F e) (Q : (r.shape.Idx → Elt F e) → sProp 𝕄) :
    (owns (d : Thread nD τ) m fullShare v : sProp 𝕄)
      ⊢ iprop((owns (d : Thread nD τ) m fullShare v -∗ Q (fun j => v (r.emb j))) -∗ WP d (Prog.lift (.load m r.toLoadRect hl)) Q) := by
  unfold owns
  iintro ⟨%f, %hf, H⟩ HQ
  unfold WP Prog.lift
  iapply (wp_load_rect 𝒱₀ (d : Thread nD τ) none Set.univ (m := m) (r := r) (S := m.view.set) (View.set_slice_subset _ _)) $$ H
  iintro H
  rw [wp_ret, show View.read (Elt F) (m.access r) f = fun j => View.read (Elt F) m.view f (r.emb j) from rfl]
  imodintro
  subst hf
  iapply HQ
  iexists f
  isplitr; · ipureintro; rfl
  iexact H

variable (X : Dev nD → Vec F S1024x1024 .bf16) (Y : Dev nD → Vec F S1024x4096 .bf16) (K : Dev nD × Slot → ℕ)

/-- The partial product that device `d` keeps. -/
def kept (d : Dev nD) : sProp 𝕄 := owns (d : Thread nD τ) kM fullShare (KF X Y d)

/-! ## One chunk of a round -/

theorem rcvPay_z (c : Fin 8) (d : Dev nD) :
    rcvPay X Y (.z c) d = owns (d : Thread nD τ) (zrM.slice (ck c) (fun _ => rfl)) fullShare (ZSc X Y (zp d) c) := rfl
theorem rcvPay_a (c : Fin 8) (d : Dev nD) :
    rcvPay X Y (.a c) d = owns (d : Thread nD τ) (s1M.slice (ck c) (fun _ => rfl)) fullShare (WBc X Y (p1 c d) c) := rfl
theorem rcvPay_b (c : Fin 8) (j : Fin 2) (d : Dev nD) :
    rcvPay X Y (.b c j) d = owns (d : Thread nD τ) ((s2M.slice (cj c j) (fun _ => rfl)).squeeze S512x128 squeezes_S1x512x128_S512x128) fullShare
      (val X Y (.b c j) (p2 c d)) := rfl

def preZ (d : Dev nD) (c : Fin 8) : sProp 𝕄 := iprop(kit (.z c) d ∗ sndPay X Y (.z c) d ∗ dest (.z c) d)

def preA (d : Dev nD) (c : Fin 8) : sProp 𝕄 :=
  iprop(flight (.z c) d ∗ kit (.a c) d ∗ winAny d (quarter d) c ∗ (∃ v, owns (d : Thread nD τ) (wbC c) fullShare v) ∗ dest (.a c) d)
def postA (d : Dev nD) (c : Fin 8) : sProp 𝕄 :=
  iprop(sndPay X Y (.z c) d ∗ rcvPay X Y (.z c) d ∗ zeros (.z c) d ∗ win d (quarter d) c (outC X Y d (quarter d) c) ∗ flight (.a c) d)

theorem wp_roundA (d : Dev nD) (c : Fin 8) (l : List Copy) (hl : ∀ e' ∈ .a c :: l, 2 < rank e') (Q : PUnit → sProp 𝕄) :
    iprop(ctx X Y K ∗ kept X Y d ∗ preA d c ∗ owesAny d (due d (.a c :: l)))
      ⊢ iprop((kept X Y d ∗ postA X Y d c ∗ owesAny d (due d l) -∗ Q ⟨⟩) -∗ WP d (roundA d c) Q) := by
  unfold preA
  iintro ⟨#HC, HK, ⟨HF, Hkit, Hwin, ⟨%vb, Hwb⟩, Hdest⟩, HO⟩ HQ
  unfold roundA WP
  rw [wp_bind]
  iapply (wp_land X Y K d (.z c) (.a c :: l) hl) $$ [HF HO]
  · isplitr; · iexact HC
    isplitl [HF]; · iexact HF
    iexact HO
  iintro ⟨HS, HR, Hz, HO⟩
  unfold kept
  rw [wp_bind]
  iapply (wp_load_part d kM (ck c) (KF X Y d)) $$ HK
  iintro HK
  rw [wp_bind]
  ihave HR := (Entails.of_eq (rcvPay_z X Y c d)) $$ HR
  iapply (wp_load_owns d zrM (ck c) (fun _ => rfl) (ZSc X Y (zp d) c)) $$ HR
  iintro HR
  rw [wp_bind]
  iapply (wp_storeW d (quarter d) c _ (k0_off4_wn d c) (k0_off4_inb d c) (Wc X Y d c)) $$ Hwin
  iintro Hwin
  rw [wp_bind]
  iapply (wp_load_owns d wbM (ck c) (fun _ => rfl) vb) $$ Hwb
  iintro Hwb
  rw [wp_bind]
  iapply (wp_store_owns d wbM (ck c) (fun _ => rfl) (WBc X Y d c) vb) $$ Hwb
  iintro Hwb
  iapply (wp_start X Y K d (.a c) l) $$ [Hkit Hwb Hdest HO]
  · isplitr; · iexact HC
    isplitl [Hkit]; · iexact Hkit
    isplitl [Hwb]; · iexact Hwb
    isplitl [Hdest]; · iexact Hdest
    iexact HO
  iintro ⟨HF, HO⟩
  iapply HQ
  unfold postA
  rw [outC_own, rcvPay_z]
  isplitl [HK]; · iexact HK
  isplitr [HO]
  · isplitl [HS]; · iexact HS
    isplitl [HR]; · iexact HR
    isplitl [Hz]; · iexact Hz
    isplitl [Hwin]; · iexact Hwin
    iexact HF
  iexact HO

def preB (d : Dev nD) (c : Fin 8) : sProp 𝕄 :=
  iprop(flight (.a c) d ∗ kit (.b c 0) d ∗ kit (.b c 1) d ∗ winAny d (quarter (p1 c d)) c ∗ dest2 c d)
def postB (d : Dev nD) (c : Fin 8) : sProp 𝕄 :=
  iprop(zeros (.a c) d ∗ win d (quarter (p1 c d)) c (outC X Y d (quarter (p1 c d)) c) ∗ flight (.b c 0) d ∗ flight (.b c 1) d)

theorem wp_roundB (d : Dev nD) (c : Fin 8) (l : List Copy) (hl : ∀ e' ∈ .b c 0 :: .b c 1 :: l, 3 < rank e') (Q : PUnit → sProp 𝕄) :
    iprop(ctx X Y K ∗ preB d c ∗ owesAny d (due d (.b c 0 :: .b c 1 :: l)))
      ⊢ iprop((postB X Y d c ∗ owesAny d (due d l) -∗ Q ⟨⟩) -∗ WP d (roundB d c) Q) := by
  unfold preB dest2
  iintro ⟨#HC, ⟨HF, Hkit0, Hkit1, Hwin, ⟨Hdest0, Hdest1⟩⟩, HO⟩ HQ
  unfold roundB WP
  rw [wp_bind]
  iapply (wp_land X Y K d (.a c) (.b c 0 :: .b c 1 :: l) hl) $$ [HF HO]
  · isplitr; · iexact HC
    isplitl [HF]; · iexact HF
    iexact HO
  iintro ⟨HS, HR, Hz, HO⟩
  ihave HR := (Entails.of_eq (rcvPay_a X Y c d)) $$ HR
  ihave HS := (Entails.of_eq (show sndPay X Y (.a c) d
    = owns (d : Thread nD τ) (srcM (.b c 0)) fullShare (val X Y (.b c 0) d) from rfl)) $$ HS
  rw [wp_bind]
  iapply (wp_load_owns d s1M (ck c) (fun _ => rfl) (WBc X Y (p1 c d) c)) $$ HR
  iintro HR
  rw [wp_bind]
  iapply (wp_storeW d (quarter (p1 c d)) c _ (offX_wn (even c) d c) (offX_inb (even c) d c) (k0_pay23 (WBc X Y (p1 c d) c))) $$ Hwin
  iintro Hwin
  rw [wp_bind]
  iapply (wp_start X Y K d (.b c 0) (.b c 1 :: l)) $$ [Hkit0 HS Hdest0 HO]
  · isplitr; · iexact HC
    isplitl [Hkit0]; · iexact Hkit0
    isplitl [HS]; · iexact HS
    isplitl [Hdest0]; · iexact Hdest0
    iexact HO
  iintro ⟨HF0, HO⟩
  iapply (wp_start X Y K d (.b c 1) l) $$ [Hkit1 HR Hdest1 HO]
  · isplitr; · iexact HC
    isplitl [Hkit1]; · iexact Hkit1
    isplitl [HR]; · iexact HR
    isplitl [Hdest1]; · iexact Hdest1
    iexact HO
  iintro ⟨HF1, HO⟩
  iapply HQ
  unfold postB
  rw [outC_p1]
  isplitr [HO]
  · isplitl [Hz]; · iexact Hz
    isplitl [Hwin]; · iexact Hwin
    isplitl [HF0]; · iexact HF0
    iexact HF1
  iexact HO

def preC (d : Dev nD) (c : Fin 8) : sProp 𝕄 :=
  iprop(flight (.b c 0) d ∗ flight (.b c 1) d ∗ winAny d (quarter (p2 c d)) c ∗ winAny d (quarter (xp (yp d))) c)
def postC (d : Dev nD) (c : Fin 8) : sProp 𝕄 :=
  iprop((sndPay X Y (.b c 0) d ∗ rcvPay X Y (.b c 0) d ∗ zeros (.b c 0) d) ∗ (sndPay X Y (.b c 1) d ∗ rcvPay X Y (.b c 1) d ∗ zeros (.b c 1) d)
    ∗ win d (quarter (p2 c d)) c (outC X Y d (quarter (p2 c d)) c) ∗ win d (quarter (xp (yp d))) c (outC X Y d (quarter (xp (yp d))) c))

theorem offX_p2 (d : Dev nD) (c : Fin 8) : offX (!even c) d c = ![0, 1024 * (quarter (p2 c d)).val + 128 * c.val] := by
  rw [offX_wn]; unfold p2; cases even c <;> rfl

theorem wp_roundC (d : Dev nD) (c : Fin 8) (Q : PUnit → sProp 𝕄) :
    iprop(ctx X Y K ∗ preC d c ∗ owesAny d (due d []))
      ⊢ iprop((postC X Y d c ∗ owesAny d (due d []) -∗ Q ⟨⟩) -∗ WP d (roundC d c) Q) := by
  unfold preC
  iintro ⟨#HC, ⟨HF0, HF1, Hwin0, Hwin1⟩, HO⟩ HQ
  unfold roundC WP
  rw [wp_bind]
  iapply (wp_land X Y K d (.b c 0) [] (fun e' he' => absurd he' List.not_mem_nil)) $$ [HF0 HO]
  · isplitr; · iexact HC
    isplitl [HF0]; · iexact HF0
    iexact HO
  iintro ⟨HS0, HR0, Hz0, HO⟩
  rw [wp_bind]
  iapply (wp_land X Y K d (.b c 1) [] (fun e' he' => absurd he' List.not_mem_nil)) $$ [HF1 HO]
  · isplitr; · iexact HC
    isplitl [HF1]; · iexact HF1
    iexact HO
  iintro ⟨HS1, HR1, Hz1, HO⟩
  ihave HR0 := (Entails.of_eq (rcvPay_b X Y c 0 d)) $$ HR0
  ihave HR1 := (Entails.of_eq (rcvPay_b X Y c 1 d)) $$ HR1
  rw [wp_bind]
  iapply (wp_load_layer d s2M (cj c 0) (fun _ => rfl) squeezes_S1x512x128_S512x128 (val X Y (.b c 0) (p2 c d))) $$ HR0
  iintro %u %hu HR0
  rw [wp_bind]
  iapply (wp_storeW d (quarter (p2 c d)) c _ (offX_p2 d c) (offX_inb (!even c) d c) (k0_pay1 u)) $$ Hwin0
  iintro Hwin0
  rw [wp_bind]
  iapply (wp_load_layer d s2M (cj c 1) (fun _ => rfl) squeezes_S1x512x128_S512x128 (val X Y (.b c 1) (p2 c d))) $$ HR1
  iintro %u' %hu' HR1
  iapply (wp_storeW d (quarter (xp (yp d))) c _ (k0_off7_wn d c) (k0_off7_inb d c) (k0_pay1 u')) $$ Hwin1
  iintro Hwin1
  iapply HQ
  unfold postC
  rw [rcvPay_b, rcvPay_b, outC_p2, outC_xy, ← hu, ← hu']
  isplitr [HO]
  · isplitl [HS0 HR0 Hz0]
    · isplitl [HS0]; · iexact HS0
      isplitl [HR0]; · rw [hu]; iexact HR0
      iexact Hz0
    isplitl [HS1 HR1 Hz1]
    · isplitl [HS1]; · iexact HS1
      isplitl [HR1]; · rw [hu']; iexact HR1
      iexact Hz1
    isplitl [Hwin0]; · iexact Hwin0
    iexact Hwin1
  iexact HO

/-! ## A round -/

/-- A text run for each item of a list, from one item's: each item turns its `pre` into its `post` and pays the arrivals
    `mine`, the shared `S` goes through, and what is still owed ranks above `r`. -/
theorem wp_each {A : Type} (d : Dev nD) (f : A → Pg F PUnit) (S : sProp 𝕄) (pre post : A → sProp 𝕄) (mine : A → List Copy) (r : ℕ)
    (step : ∀ (c : A) (l : List Copy) (hl : ∀ e' ∈ mine c ++ l, r < rank e') (Q : PUnit → sProp 𝕄),
      iprop(ctx X Y K ∗ S ∗ pre c ∗ owesAny d (due d (mine c ++ l)))
        ⊢ iprop((S ∗ post c ∗ owesAny d (due d l) -∗ Q ⟨⟩) -∗ WP d (f c) Q))
    (rest : List Copy) (k : Pg F PUnit) (Q : PUnit → sProp 𝕄) :
    ∀ (cs : List A) (hl : ∀ e' ∈ cs.flatMap mine ++ rest, r < rank e'),
    iprop(ctx X Y K ∗ S ∗ bigSepL cs pre ∗ owesAny d (due d (cs.flatMap mine ++ rest)))
      ⊢ iprop((S ∗ bigSepL cs post ∗ owesAny d (due d rest) -∗ WP d k Q) -∗ WP d (each f cs k) Q)
  | [], _ => by
    iintro ⟨#HC, HS, Hpre, HO⟩ HQ
    iapply HQ
    isplitl [HS]; · iexact HS
    isplitl [Hpre]; · iexact Hpre
    iexact HO
  | c :: cs, hl => by
    have hfm : (c :: cs).flatMap mine ++ rest = mine c ++ (cs.flatMap mine ++ rest) := by
      rw [List.flatMap_cons, List.append_assoc]
    rw [hfm] at hl ⊢
    rw [bigSepL_cons', bigSepL_cons']
    iintro ⟨#HC, HS, ⟨Hc, Hpre⟩, HO⟩ HQ
    unfold each WP
    rw [wp_bind]
    iapply (step c (cs.flatMap mine ++ rest) hl) $$ [HS Hc HO]
    · isplitr; · iexact HC
      isplitl [HS]; · iexact HS
      isplitl [Hc]; · iexact Hc
      iexact HO
    iintro ⟨HS, Hc, HO⟩
    iapply (wp_each d f S pre post mine r step rest k Q cs (fun e' he' => hl e' (List.mem_append_right _ he'))) $$ [HS Hpre HO]
    · isplitr; · iexact HC
      isplitl [HS]; · iexact HS
      isplitl [Hpre]; · iexact Hpre
      iexact HO
    iintro ⟨HS, Hpost, HO⟩
    iapply HQ
    isplitl [HS]; · iexact HS
    isplitl [Hc Hpost]
    · isplitl [Hc]; · iexact Hc
      iexact Hpost
    iexact HO

end Cert.KernelIdeal.Own
-- ==== Proof.IdealPlaces.lean ====
/- Buffers cut into the chunks that the copies move, and joined again; the copies, the windows and the two roads counted. -/
module

public import proofs.«01_k».proof.Proof.IdealRounds
public import Idealize.ShloMosaic.Lib.MemrefSat

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

theorem entails_of_eq {P Q : sProp 𝕄} (h : P = Q) : Idealize.SL.BI.Entails P Q := h ▸ Idealize.SL.BI.Entails.refl _
theorem eq_of_entails {P Q : sProp 𝕄} (h₁ : P ⊢ Q) (h₂ : Q ⊢ P) : P = Q := BI.equiv_iff.mp ⟨h₁, h₂⟩

/-! ## Any contents -/

/-- A memref of device `d` at any contents. -/
def anyOf (d : Dev nD) {s : Shape} {e : EltTy} (m : Memref sig .tc .vmem s e) : sProp 𝕄 :=
  iprop(∃ v, owns (d : Thread nD τ) m fullShare v)

theorem anyOf_intro (d : Dev nD) {s : Shape} {e : EltTy} (m : Memref sig .tc .vmem s e) (v : s.Idx → Elt F e) :
    (owns (d : Thread nD τ) m fullShare v : sProp 𝕄) ⊢ anyOf d m := by
  unfold anyOf; iintro H; iexists v; iexact H

/-- A squeezed memref has the places of the memref. -/
theorem anyOf_squeeze (d : Dev nD) {s s' : Shape} {e : EltTy} (m : Memref sig .tc .vmem s e) (h : s.Squeezes s') :
    (anyOf d (m.squeeze s' h) : sProp 𝕄) ⊢ anyOf d m := by
  have hs : (m.squeeze s' h).view.set = m.view.set := View.set_reshape _ _
  unfold anyOf owns
  iintro ⟨%v, %f, %hf, H⟩
  iexists (m.view.read (Elt F) f); iexists f
  isplitr; · ipureintro; rfl
  rw [← hs]; iexact H

theorem anyOf_unsqueeze (d : Dev nD) {s s' : Shape} {e : EltTy} (m : Memref sig .tc .vmem s e) (h : s.Squeezes s') :
    (anyOf d m : sProp 𝕄) ⊢ anyOf d (m.squeeze s' h) := by
  have hs : (m.squeeze s' h).view.set = m.view.set := View.set_reshape _ _
  unfold anyOf owns
  iintro ⟨%v, %f, %hf, H⟩
  iexists ((m.squeeze s' h).view.read (Elt F) f); iexists f
  isplitr; · ipureintro; rfl
  rw [hs]; iexact H

section Cut

variable (d : Dev nD) {s : Shape} {e : EltTy} (m : Memref sig .tc .vmem s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)
include hd hcov

theorem anyOf_cut : (anyOf d m : sProp 𝕄) ⊢ bigSep Finset.univ fun t => anyOf d (m.slice (r t) (hr t)) := by
  unfold anyOf
  iintro ⟨%v, H⟩
  iapply ((owns_rects (d : Thread nD τ) m fullShare r hr hd hcov v).trans (bigSep_mono fun t _ => anyOf_intro d (m.slice (r t) (hr t)) _))
  iexact H

theorem anyOf_join : (bigSep Finset.univ fun t => anyOf d (m.slice (r t) (hr t)) : sProp 𝕄) ⊢ anyOf d m :=
  ((bigSep_mono fun t _ => (ownsSat_true (d : Thread nD τ) (m.slice (r t) (hr t)) fullShare).2).trans
    (ownsSat_of_rects (d : Thread nD τ) m fullShare r hr hd hcov fun _ _ => True)).trans
    (ownsSat_any (d : Thread nD τ) m fullShare)

end Cut

/-! ## The families of rectangles -/

theorem ck_disjoint (c c' : Fin 8) (h : c ≠ c') : Disjoint (ck c).set (ck c').set := by
  refine Rect.unit_disjoint 1 ?_
  have : c.val ≠ c'.val := fun h' => h (Fin.ext h')
  show 128 * c.val + 128 ≤ 128 * c'.val ∨ 128 * c'.val + 128 ≤ 128 * c.val
  omega

theorem ck_cover : (Finset.univ : Finset (Fin 8)).biUnion (fun c => (ck c).set) = Finset.univ := by
  ext i
  simp only [Finset.mem_biUnion, Finset.mem_univ, true_and, iff_true]
  have h0 : (i 0).val < 512 := (i 0).isLt
  have h1 : (i 1).val < 1024 := (i 1).isLt
  refine ⟨⟨(i 1).val / 128, by omega⟩, Rect.mem_set_unit.mpr fun a => ?_⟩
  match a with
  | ⟨0, _⟩ => show 0 ≤ (i 0).val ∧ (i 0).val < 0 + 512; omega
  | ⟨1, _⟩ => show 128 * ((i 1).val / 128) ≤ (i 1).val ∧ (i 1).val < 128 * ((i 1).val / 128) + 128; omega

theorem cj_disjoint (x x' : Fin 8 × Fin 2) (h : x ≠ x') : Disjoint (cj x.1 x.2).set (cj x'.1 x'.2).set := by
  by_cases hj : x.2.val = x'.2.val
  · refine Rect.unit_disjoint 2 ?_
    have : x.1.val ≠ x'.1.val := fun h' => h (Prod.ext (Fin.ext h') (Fin.ext hj))
    show 128 * x.1.val + 128 ≤ 128 * x'.1.val ∨ 128 * x'.1.val + 128 ≤ 128 * x.1.val
    omega
  · refine Rect.unit_disjoint 0 ?_
    show x.2.val + 1 ≤ x'.2.val ∨ x'.2.val + 1 ≤ x.2.val
    omega

theorem cj_cover : (Finset.univ : Finset (Fin 8 × Fin 2)).biUnion (fun x => (cj x.1 x.2).set) = Finset.univ := by
  ext i
  simp only [Finset.mem_biUnion, Finset.mem_univ, true_and, iff_true]
  have h0 : (i 0).val < 2 := (i 0).isLt
  have h1 : (i 1).val < 512 := (i 1).isLt
  have h2 : (i 2).val < 1024 := (i 2).isLt
  refine ⟨(⟨(i 2).val / 128, by omega⟩, ⟨(i 0).val, h0⟩), Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 128 * ((i 2).val / 128) ≤ (i 2).val ∧ (i 2).val < 128 * ((i 2).val / 128) + 128; omega

theorem wn_disjoint (x x' : Fin 4 × Fin 8) (h : x ≠ x') : Disjoint (wn x.1 x.2).set (wn x'.1 x'.2).set := by
  refine Rect.unit_disjoint 1 ?_
  have : x.1.val ≠ x'.1.val ∨ x.2.val ≠ x'.2.val := by
    by_contra hn
    rw [not_or, not_not, not_not] at hn
    exact h (Prod.ext (Fin.ext hn.1) (Fin.ext hn.2))
  have h2 := x.2.isLt
  have h2' := x'.2.isLt
  show 1024 * x.1.val + 128 * x.2.val + 128 ≤ 1024 * x'.1.val + 128 * x'.2.val ∨ 1024 * x'.1.val + 128 * x'.2.val + 128 ≤ 1024 * x.1.val + 128 * x.2.val
  omega

theorem wn_cover : (Finset.univ : Finset (Fin 4 × Fin 8)).biUnion (fun x => (wn x.1 x.2).set) = Finset.univ := by
  ext i
  simp only [Finset.mem_biUnion, Finset.mem_univ, true_and, iff_true]
  have h0 : (i 0).val < 512 := (i 0).isLt
  have h1 : (i 1).val < 4096 := (i 1).isLt
  refine ⟨(⟨(i 1).val / 1024, by omega⟩, ⟨(i 1).val % 1024 / 128, by omega⟩), Rect.mem_set_unit.mpr fun a => ?_⟩
  match a with
  | ⟨0, _⟩ => show 0 ≤ (i 0).val ∧ (i 0).val < 0 + 512; omega
  | ⟨1, _⟩ =>
    show 1024 * ((i 1).val / 1024) + 128 * ((i 1).val % 1024 / 128) ≤ (i 1).val
      ∧ (i 1).val < 1024 * ((i 1).val / 1024) + 128 * ((i 1).val % 1024 / 128) + 128
    omega

/-! ## Counting -/

theorem bigSep_two (Φ : Fin 2 → sProp 𝕄) : bigSep Finset.univ Φ = iprop(Φ 0 ∗ Φ 1) :=
  bigSep_univ_eq_bigSepL [0, 1] (by decide) (by decide) Φ

theorem bigSep_chunks (Φ : Fin 8 → sProp 𝕄) : bigSep Finset.univ Φ = bigSepL chunks Φ :=
  bigSep_univ_eq_bigSepL chunks (by decide) (by decide) Φ

/-- The copies, kind by kind. -/
theorem bigSep_copies (Φ : Copy → sProp 𝕄) : bigSep Finset.univ Φ
    = iprop((bigSep Finset.univ fun c => Φ (.z c)) ∗ (bigSep Finset.univ fun c => Φ (.a c))
        ∗ bigSep Finset.univ fun c => iprop(Φ (.b c 0) ∗ Φ (.b c 1))) := by
  rw [bigSep_univ_equiv Copy.equiv Φ, bigSep_univ_sum, bigSep_univ_sum, bigSep_univ_prod]
  simp only [bigSep_two]
  rfl

/-- Two families dealt by the parity of the chunk. -/
theorem bigSep_parity (A B : Fin 8 → sProp 𝕄) :
    iprop((bigSep Finset.univ fun c => bif even c then A c else B c) ∗ bigSep Finset.univ fun c => bif even c then B c else A c)
      = iprop(bigSep Finset.univ A ∗ bigSep Finset.univ B) := by
  rw [← bigSep_sep', ← bigSep_sep']
  refine bigSep_congr fun c _ => ?_
  cases even c
  · exact eq_of_entails sep_comm.1 sep_comm.1
  · rfl

/-- The windows of the result, quarter by quarter as device `d` stores them. -/
theorem bigSep_windows (d : Dev nD) (Φ : Fin 4 → Fin 8 → sProp 𝕄) : bigSep Finset.univ (fun x : Fin 4 × Fin 8 => Φ x.1 x.2)
    = iprop((bigSep Finset.univ fun c => Φ (quarter d) c)
        ∗ ((bigSep Finset.univ fun c => Φ (quarter (p1 c d)) c) ∗ bigSep Finset.univ fun c => Φ (quarter (p2 c d)) c)
        ∗ bigSep Finset.univ fun c => Φ (quarter (xp (yp d))) c) := by
  have h : iprop((bigSep Finset.univ fun c => Φ (quarter (p1 c d)) c) ∗ bigSep Finset.univ fun c => Φ (quarter (p2 c d)) c)
      = iprop((bigSep Finset.univ fun c => Φ (quarter (xp d)) c) ∗ bigSep Finset.univ fun c => Φ (quarter (yp d)) c) := by
    have h1 : (bigSep Finset.univ fun c => Φ (quarter (p1 c d)) c)
        = bigSep Finset.univ fun c => bif even c then Φ (quarter (xp d)) c else Φ (quarter (yp d)) c :=
      bigSep_congr fun c _ => by unfold p1; cases even c <;> rfl
    have h2 : (bigSep Finset.univ fun c => Φ (quarter (p2 c d)) c)
        = bigSep Finset.univ fun c => bif even c then Φ (quarter (yp d)) c else Φ (quarter (xp d)) c :=
      bigSep_congr fun c _ => by unfold p2; cases even c <;> rfl
    rw [h1, h2, bigSep_parity]
  rw [h, bigSep_univ_prod, bigSep_univ_eq_bigSepL (quarters d) (quarters_all d) (quarters_nodup d)]
  unfold quarters
  rw [bigSepL_cons', bigSepL_cons', bigSepL_cons', bigSepL_singleton]
  refine eq_of_entails ?_ ?_
  · iintro ⟨H0, H1, H2, H3⟩
    isplitl [H0]; · iexact H0
    isplitr [H3]
    · isplitl [H1]; · iexact H1
      iexact H2
    iexact H3
  · iintro ⟨H0, ⟨H1, H2⟩, H3⟩
    isplitl [H0]; · iexact H0
    isplitl [H1]; · iexact H1
    isplitl [H2]; · iexact H2
    iexact H3

/-! ## The buffers -/

variable (d : Dev nD)

/-- The places of the copies that come to device `d`. -/
theorem places_z : (anyOf d zrM : sProp 𝕄) ⊢ bigSep Finset.univ fun c => place (.z c) d :=
  anyOf_cut d zrM ck (fun _ _ => rfl) ck_disjoint ck_cover
theorem places_a : (anyOf d s1M : sProp 𝕄) ⊢ bigSep Finset.univ fun c => place (.a c) d :=
  anyOf_cut d s1M ck (fun _ _ => rfl) ck_disjoint ck_cover
theorem places_b : (anyOf d s2M : sProp 𝕄) ⊢ bigSep Finset.univ fun c => iprop(place (.b c 0) d ∗ place (.b c 1) d) := by
  refine (anyOf_cut d s2M (fun x : Fin 8 × Fin 2 => cj x.1 x.2) (fun _ _ => rfl) cj_disjoint cj_cover).trans
    ((bigSep_mono fun x _ => anyOf_unsqueeze d (s2M.slice (cj x.1 x.2) (fun _ => rfl)) squeezes_S1x512x128_S512x128).trans (entails_of_eq ?_))
  rw [bigSep_univ_prod]
  exact bigSep_congr fun c _ => bigSep_two _
theorem chunks_join (m : Memref sig .tc .vmem S512x1024 .bf16) :
    (bigSep Finset.univ fun c => anyOf d (m.slice (ck c) (fun _ => rfl)) : sProp 𝕄) ⊢ anyOf d m :=
  anyOf_join d m ck (fun _ _ => rfl) ck_disjoint ck_cover
theorem chunks_cut (m : Memref sig .tc .vmem S512x1024 .bf16) :
    (anyOf d m : sProp 𝕄) ⊢ bigSep Finset.univ fun c => anyOf d (m.slice (ck c) (fun _ => rfl)) :=
  anyOf_cut d m ck (fun _ _ => rfl) ck_disjoint ck_cover
theorem layers_join :
    (bigSep Finset.univ fun c => iprop(anyOf d (s2C c 0) ∗ anyOf d (s2C c 1)) : sProp 𝕄) ⊢ anyOf d s2M := by
  refine BI.Entails.trans (entails_of_eq ?_) ((bigSep_mono fun x _ => anyOf_squeeze d (s2M.slice (cj x.1 x.2) (fun _ => rfl)) squeezes_S1x512x128_S512x128).trans
    (anyOf_join d s2M (fun x : Fin 8 × Fin 2 => cj x.1 x.2) (fun _ _ => rfl) cj_disjoint cj_cover))
  rw [bigSep_univ_prod]
  exact (bigSep_congr fun c _ => bigSep_two (F := F) fun j => anyOf d (s2C c j)).symm

/-- The result's windows, at any contents, and back at what is stored there. -/
theorem windows_cut : (anyOf d oM : sProp 𝕄) ⊢ bigSep Finset.univ fun x : Fin 4 × Fin 8 => winAny d x.1 x.2 :=
  anyOf_cut d oM (fun x : Fin 4 × Fin 8 => wn x.1 x.2) (fun _ _ => rfl) wn_disjoint wn_cover

variable (X : Dev nD → Vec F S1024x1024 .bf16) (Y : Dev nD → Vec F S1024x4096 .bf16)

theorem windows_join : (bigSep Finset.univ fun x : Fin 4 × Fin 8 => win d x.1 x.2 (outC X Y d x.1 x.2) : sProp 𝕄)
    ⊢ owns (d : Thread nD τ) oM fullShare (OUT X Y d) := by
  refine BI.Entails.trans (entails_of_eq (bigSep_congr fun x _ => ?_))
    (owns_of_rects (d : Thread nD τ) oM fullShare (fun x : Fin 4 × Fin 8 => wn x.1 x.2) (fun _ _ => rfl) wn_disjoint wn_cover (OUT X Y d))
  unfold win
  rw [← OUT_wn]

/-- What is sent across z, chunk by chunk. -/
theorem sends_z : (owns (d : Thread nD τ) zsM fullShare (ZS X Y d) : sProp 𝕄) ⊢ bigSep Finset.univ fun c => sndPay X Y (.z c) d :=
  owns_rects (d : Thread nD τ) zsM fullShare ck (fun _ _ => rfl) ck_disjoint ck_cover (ZS X Y d)

end Cert.KernelIdeal.Own
-- ==== Proof.IdealBody.lean ====
/- The whole body of a device: the barrier, the products, the three rounds. -/
module

public import proofs.«01_k».proof.Proof.IdealPlaces
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

variable (X : Dev nD → Vec F S1024x1024 .bf16) (Y : Dev nD → Vec F S1024x4096 .bf16) (K : Dev nD × Slot → ℕ)

/-! ## The barrier -/

/-- What device `d` holds for the barrier: the right to one unit at each neighbour's, its position at its own, the credit
    of three units. -/
def barKit (d : Dev nD) : sProp 𝕄 :=
  iprop(dutyTok ER (barCell (zp d)) 0 0 ∗ dutyTok ER (barCell (xp d)) 0 1 ∗ dutyTok ER (barCell (yp d)) 0 2
    ∗ atPos ER (barCell d) 0 ∅ 0 ∗ cred (tallyAt (barCell d) () 3))

theorem payload_bar (d : Dev nD) (t : Fin 3) : (meshRd X Y).payload (barCell d) 0 t = barPay d t := rfl
theorem amount_bar (d : Dev nD) (t : Fin 3) : (meshRd X Y).amount (barCell d) 0 t = (1#32).toNat := rfl

/-- A device's places are what it hands to its neighbours at the barrier, -/
theorem give_z (d : Dev nD) : (bigSep Finset.univ fun c => place (.z c) d : sProp 𝕄) = barPay (zp d) 0 :=
  bigSep_congr fun c _ => (dest_peer (.z c) d).symm

theorem give_ab (d : Dev nD) : iprop((bigSep Finset.univ fun c => place (.a c) d) ∗ bigSep Finset.univ fun c => iprop(place (.b c 0) d ∗ place (.b c 1) d))
    = (iprop(barPay (xp d) 1 ∗ barPay (yp d) 2) : sProp 𝕄) := by
  have ha (c : Fin 8) : (place (.a c) d : sProp 𝕄) = dest (.a c) (p1 c d) := (dest_peer (.a c) d).symm
  have hb (c : Fin 8) : (iprop(place (.b c 0) d ∗ place (.b c 1) d) : sProp 𝕄) = dest2 c (p2 c d) := by
    unfold dest2; rw [← dest_peer (.b c 0) d, ← dest_peer (.b c 1) d]; rfl
  rw [← bigSep_parity]
  unfold barPay
  have h1 (c : Fin 8) : (bif even c then place (.a c) d else iprop(place (.b c 0) d ∗ place (.b c 1) d) : sProp 𝕄)
      = bif even c then dest (.a c) (xp d) else dest2 c (xp d) := by
    rw [ha, hb]; unfold p1 p2; cases even c <;> simp only [cond_true, cond_false]
  have h2 (c : Fin 8) : (bif even c then iprop(place (.b c 0) d ∗ place (.b c 1) d) else place (.a c) d : sProp 𝕄)
      = bif even c then dest2 c (yp d) else dest (.a c) (yp d) := by
    rw [ha, hb]; unfold p1 p2; cases even c <;> simp only [cond_true, cond_false]
  rw [bigSep_congr fun c _ => h1 c, bigSep_congr fun c _ => h2 c]

/-- and what the neighbours hand over are the places to which its own copies go. -/
theorem take_ab (d : Dev nD) : (iprop(barPay d 1 ∗ barPay d 2) : sProp 𝕄)
    = iprop((bigSep Finset.univ fun c => dest (.a c) d) ∗ bigSep Finset.univ fun c => dest2 c d) :=
  bigSep_parity (fun c => dest (.a c) d) fun c => dest2 c d

theorem wp_barrier (d : Dev nD) (k : Pg F PUnit) (Q : PUnit → sProp 𝕄) :
    iprop(ctx X Y K ∗ barKit d ∗ (bigSep Finset.univ fun c => place (.z c) d) ∗ (bigSep Finset.univ fun c => place (.a c) d)
        ∗ (bigSep Finset.univ fun c => iprop(place (.b c 0) d ∗ place (.b c 1) d)) ∗ owesAny d (owed d))
      ⊢ iprop(((bigSep Finset.univ fun c => dest (.z c) d) ∗ (bigSep Finset.univ fun c => dest (.a c) d) ∗ (bigSep Finset.univ fun c => dest2 c d)
          ∗ semVal (barCell d) 0 ∗ owesAny d (due d order) -∗ WP d k Q) -∗ WP d (barrier d k) Q) := by
  unfold barrier WP
  simp only [semSignalWord, semWaitWord, Prog.lift, Prog.bind_op, Prog.bind_ret]
  unfold ctx barKit owesAny
  iintro ⟨⟨#HR, #HL⟩, ⟨HtZ, HtX, HtY, Hat, Hcr⟩, Hz, Ha, Hb, ⟨%W, HO⟩⟩ HQ
  ihave #HZ := (records_at X Y K (zp d, none)) $$ HR
  ihave #HX := (records_at X Y K (xp d, none)) $$ HR
  ihave #HY := (records_at X Y K (yp d, none)) $$ HR
  ihave #HD := (records_at X Y K (d, none)) $$ HR
  icases HZ with ⟨#HIZ, #HrZ⟩
  icases HX with ⟨#HIX, #HrX⟩
  icases HY with ⟨#HIY, #HrY⟩
  icases HD with ⟨#HID, #HrD⟩
  ihave Hz := (Entails.of_eq (give_z d)) $$ Hz
  ihave Hab := (Entails.of_eq (give_ab d)) $$ [Ha Hb]
  · isplitl [Ha]; · iexact Ha
    iexact Hb
  icases Hab with ⟨Ha, Hb⟩
  iapply (Rounds.wp_signal 𝒱₀ ER (meshRd X Y) (d : Thread nD τ) none (dst := (zp d : Thread nD τ)) (κ := K (zp d, none)) (r := 0)
      (d := 0) (by rw [duties_bar]; exact Finset.mem_univ _) (amount_bar X Y (zp d) 0) () (owed2 d) rfl) $$ [HO HtZ Hz]
  · isplitr; · iexact HIZ
    isplitl [HO]; · iexact HO
    isplitl [HtZ]; · iexact HtZ
    isplitl [Hz]; · rw [payload_bar]; iexact Hz
    iexact HrZ
  iintro HO
  iapply (Rounds.wp_signal 𝒱₀ ER (meshRd X Y) (d : Thread nD τ) none (dst := (xp d : Thread nD τ)) (κ := K (xp d, none)) (r := 0)
      (d := 1) (by rw [duties_bar]; exact Finset.mem_univ _) (amount_bar X Y (xp d) 1) () (owed3 d) rfl) $$ [HO HtX Ha]
  · isplitr; · iexact HIX
    isplitl [HO]; · iexact HO
    isplitl [HtX]; · iexact HtX
    isplitl [Ha]; · rw [payload_bar]; iexact Ha
    iexact HrX
  iintro HO
  iapply (Rounds.wp_signal 𝒱₀ ER (meshRd X Y) (d : Thread nD τ) none (dst := (yp d : Thread nD τ)) (κ := K (yp d, none)) (r := 0)
      (d := 2) (by rw [duties_bar]; exact Finset.mem_univ _) (amount_bar X Y (yp d) 2) () (due d order) rfl) $$ [HO HtY Hb]
  · isplitr; · iexact HIY
    isplitl [HO]; · iexact HO
    isplitl [HtY]; · iexact HtY
    isplitl [Hb]; · rw [payload_bar]; iexact Hb
    iexact HrY
  iintro HO
  iapply (Rounds.wp_wait_rest_token 𝒱₀ ER (meshRd X Y) (d : Thread nD τ) none (κ := K (d, none))
      (wpE_semWait_eq 𝒱₀ (d : Thread nD τ) none Set.univ) (Set.mem_univ _) () (O := due d order) (W := W) (R := 0) (m := 0) (T := ∅)
      (by rw [expect_bar]; decide)) $$ [Hcr HO Hat]
  · isplitr; · iexact HID
    isplitl [Hcr]; · iexact Hcr
    isplitl [HO]; · iexact HO
    isplitr; · iapply (mayWait_due d (.reg barS) order (show ∀ e ∈ order, 1 < rank e by decide)); iexact HL
    iexact Hat
  iintro ⟨HO, Hat, -, Hpay⟩
  ihave Hpay := (Entails.of_eq (rest_bar X Y d)) $$ Hpay
  icases Hpay with ⟨Hz, Hab⟩
  ihave Hab := (Entails.of_eq (take_ab d)) $$ Hab
  icases Hab with ⟨Ha, Hb⟩
  imod (Rounds.cell_close ER (meshRd X Y) (Set.mem_univ (K (d, none))) (fun h => h) (R := 0 + 1) (duties_later X Y (barCell d))) $$ [Hat] with Hsem
  · isplitr; · iexact HID
    iexact Hat
  iapply HQ
  isplitl [Hz]; · unfold barPay; iexact Hz
  isplitl [Ha]; · iexact Ha
  isplitl [Hb]; · iexact Hb
  isplitl [Hsem]; · iexact Hsem
  iexists _
  iexact HO

/-! ## A round over the eight chunks -/

theorem wp_round (d : Dev nD) (f : Fin 8 → Pg F PUnit) (S : sProp 𝕄) (pre post : Fin 8 → sProp 𝕄) (mine : Fin 8 → List Copy) (r : ℕ)
    (step : ∀ (c : Fin 8) (l : List Copy) (hl : ∀ e' ∈ mine c ++ l, r < rank e') (Q : PUnit → sProp 𝕄),
      iprop(ctx X Y K ∗ S ∗ pre c ∗ owesAny d (due d (mine c ++ l)))
        ⊢ iprop((S ∗ post c ∗ owesAny d (due d l) -∗ Q ⟨⟩) -∗ WP d (f c) Q))
    (rest : List Copy) (k : Pg F PUnit) (Q : PUnit → sProp 𝕄) (hl : ∀ e' ∈ chunks.flatMap mine ++ rest, r < rank e') :
    iprop(ctx X Y K ∗ S ∗ bigSep Finset.univ pre ∗ owesAny d (due d (chunks.flatMap mine ++ rest)))
      ⊢ iprop((S ∗ bigSep Finset.univ post ∗ owesAny d (due d rest) -∗ WP d k Q) -∗ WP d (each f chunks k) Q) := by
  rw [bigSep_chunks, bigSep_chunks]
  exact wp_each X Y K d f S pre post mine r step rest k Q chunks hl

theorem step_z (d : Dev nD) (c : Fin 8) (l : List Copy) (hl : ∀ e' ∈ [.z c] ++ l, 0 < rank e') (Q : PUnit → sProp 𝕄) :
    iprop(ctx X Y K ∗ emp ∗ preZ X Y d c ∗ owesAny d (due d ([.z c] ++ l)))
      ⊢ iprop((emp ∗ flight (.z c) d ∗ owesAny d (due d l) -∗ Q ⟨⟩) -∗ WP d (start d (.z c)) Q) := by
  unfold preZ sndPay
  iintro ⟨#HC, -, ⟨Hk, Hs, Hd⟩, HO⟩ HQ
  iapply (wp_start X Y K d (.z c) l) $$ [Hk Hs Hd HO]
  · isplitr; · iexact HC
    isplitl [Hk]; · iexact Hk
    isplitl [Hs]; · iexact Hs
    isplitl [Hd]; · iexact Hd
    iexact HO
  iintro ⟨HF, HO⟩
  iapply HQ
  isplitr; · iempintro
  isplitl [HF]; · iexact HF
  iexact HO

theorem step_b (d : Dev nD) (c : Fin 8) (l : List Copy) (hl : ∀ e' ∈ bs c ++ l, 3 < rank e') (Q : PUnit → sProp 𝕄) :
    iprop(ctx X Y K ∗ emp ∗ preB d c ∗ owesAny d (due d (bs c ++ l)))
      ⊢ iprop((emp ∗ postB X Y d c ∗ owesAny d (due d l) -∗ Q ⟨⟩) -∗ WP d (roundB d c) Q) := by
  iintro ⟨#HC, -, Hp, HO⟩ HQ
  iapply (wp_roundB X Y K d c l hl) $$ [Hp HO]
  · isplitr; · iexact HC
    isplitl [Hp]; · iexact Hp
    iexact HO
  iintro ⟨HF, HO⟩
  iapply HQ
  isplitr; · iempintro
  isplitl [HF]; · iexact HF
  iexact HO

theorem wp_lastRound (d : Dev nD) (k : Pg F PUnit) (Q : PUnit → sProp 𝕄) (cs : List (Fin 8)) :
    iprop(ctx X Y K ∗ bigSepL cs (preC d) ∗ owesAny d (due d []))
      ⊢ iprop((bigSepL cs (postC X Y d) ∗ owesAny d (due d []) -∗ WP d k Q) -∗ WP d (each (roundC d) cs k) Q) := by
  induction cs with
  | nil =>
    iintro ⟨#HC, Hpre, HO⟩ HQ
    iapply HQ
    isplitl [Hpre]; · iexact Hpre
    iexact HO
  | cons c cs ih =>
    rw [bigSepL_cons', bigSepL_cons']
    iintro ⟨#HC, ⟨Hc, Hpre⟩, HO⟩ HQ
    unfold each WP
    rw [wp_bind]
    iapply (wp_roundC X Y K d c) $$ [Hc HO]
    · isplitr; · iexact HC
      isplitl [Hc]; · iexact Hc
      iexact HO
    iintro ⟨Hc, HO⟩
    iapply ih $$ [Hpre HO]
    · isplitr; · iexact HC
      isplitl [Hpre]; · iexact Hpre
      iexact HO
    iintro ⟨Hpost, HO⟩
    iapply HQ
    isplitl [Hc Hpost]
    · isplitl [Hc]; · iexact Hc
      iexact Hpost
    iexact HO

/-! ## The products -/

theorem zero_off : (![0, 0] : Fin 2 → ℕ) = fun _ => 0 := funext fun a => by fin_cases a <;> rfl

theorem wp_load_any (d : Dev nD) {s : Shape} {e : EltTy} (m : Memref sig .tc .vmem s e) (r : Rect s)
    {hl : m.view.LoadsAt r.toLoadRect} (Q : (r.shape.Idx → Elt F e) → sProp 𝕄) :
    (anyOf d m : sProp 𝕄) ⊢ iprop((∀ v, anyOf d m -∗ Q v) -∗ WP d (Prog.lift (.load m r.toLoadRect hl)) Q) := by
  unfold anyOf
  iintro ⟨%v, H⟩ HQ
  iapply (wp_load_part d m r v) $$ H
  iintro H
  iapply HQ $$ %_
  iexists v
  iexact H

theorem wp_store_zs (d : Dev nD) (w : Vec F S512x1024 .bf16) {hx : (zsM.access r0).Stores Finset.univ} {hm : Finset.univ = Finset.univ ∨ ∀ a, r0.stride a = 1}
    (Q : PUnit → sProp 𝕄) :
    (anyOf d zsM : sProp 𝕄) ⊢ iprop((owns (d : Thread nD τ) zsM fullShare w -∗ Q ⟨⟩) -∗ WP d (Prog.lift (.store zsM r0 w Finset.univ hx hm)) Q) := by
  unfold anyOf
  rw [owns_whole]
  iintro ⟨%v, H⟩ HQ
  ihave H := (Entails.of_eq (owns_whole (d : Thread nD τ) cc0_scratch1 fullShare v)) $$ H
  unfold WP Prog.lift
  iapply (wp_store 𝒱₀ (d : Thread nD τ) none Set.univ (m := zsM) (r := r0) (Mk := Finset.univ) (Finset.subset_univ _)) $$ H
  iintro H
  have hw : View.write (Elt F) (zsM.access r0) v w Finset.univ = w := Memref.write_access_unit_zero_univ (Elt F) cc0_scratch1 zero_off _ v w
  rw [wp_ret, hw]
  imodintro
  iapply HQ
  iexact H

theorem wp_store_k (d : Dev nD) (w : Vec F S512x1024 .f32) {hx : (kM.access r0).Stores Finset.univ} {hm : Finset.univ = Finset.univ ∨ ∀ a, r0.stride a = 1}
    (Q : PUnit → sProp 𝕄) :
    (anyOf d kM : sProp 𝕄) ⊢ iprop((owns (d : Thread nD τ) kM fullShare w -∗ Q ⟨⟩) -∗ WP d (Prog.lift (.store kM r0 w Finset.univ hx hm)) Q) := by
  unfold anyOf
  rw [owns_whole]
  iintro ⟨%v, H⟩ HQ
  ihave H := (Entails.of_eq (owns_whole (d : Thread nD τ) cc0_scratch0 fullShare v)) $$ H
  unfold WP Prog.lift
  iapply (wp_store 𝒱₀ (d : Thread nD τ) none Set.univ (m := kM) (r := r0) (Mk := Finset.univ) (Finset.subset_univ _)) $$ H
  iintro H
  have hw : View.write (Elt F) (kM.access r0) v w Finset.univ = w := Memref.write_access_unit_zero_univ (Elt F) cc0_scratch0 zero_off _ v w
  rw [wp_ret, hw]
  imodintro
  iapply HQ
  iexact H

/-- The blocks of x and dy of device `d`. -/
def blocks (d : Dev nD) : sProp 𝕄 := iprop(owns (d : Thread nD τ) xM fullShare (X d) ∗ owns (d : Thread nD τ) yM fullShare (Y d))

/-- What is left of the order after the copies across z. -/
def order2 : List Copy := chunks.flatMap (fun c => [.a c]) ++ (chunks.flatMap bs ++ [])

theorem wp_products (d : Dev nD) (k : Pg F PUnit) (Q : PUnit → sProp 𝕄) :
    iprop(ctx X Y K ∗ blocks X Y d ∗ anyOf d kM ∗ anyOf d zsM ∗ (bigSep Finset.univ fun c => kit (.z c) d)
        ∗ (bigSep Finset.univ fun c => dest (.z c) d) ∗ owesAny d (due d order))
      ⊢ iprop((blocks X Y d ∗ kept X Y d ∗ (bigSep Finset.univ fun c => flight (.z c) d) ∗ owesAny d (due d order2) -∗ WP d k Q)
          -∗ WP d (products d k) Q) := by
  unfold blocks kept
  iintro ⟨#HC, ⟨HX, HY⟩, Hk, Hzs, Hkit, Hdest, HO⟩ HQ
  unfold products WP
  rw [wp_bind]
  iapply (wp_load_part d xM (rA d) (X d)) $$ HX
  iintro HX
  rw [wp_bind]
  iapply (wp_load_part d xM (rB d) (X d)) $$ HX
  iintro HX
  rw [wp_bind]
  iapply (wp_load_part d yM (rY d) (Y d)) $$ HY
  iintro HY
  rw [wp_bind]
  iapply (wp_load_any d zsM r0) $$ Hzs
  iintro %_ Hzs
  rw [wp_bind]
  iapply (wp_store_zs d (ZS X Y d)) $$ Hzs
  iintro Hzs
  ihave Hzs := (sends_z d X Y) $$ Hzs
  iapply (wp_round X Y K d (fun c => start d (.z c)) iprop(emp) (preZ X Y d) (fun c => flight (.z c) d) (fun c => [.z c]) 0 (step_z X Y K d) order2 _ _
    (show ∀ e' ∈ order, 0 < rank e' by decide)) $$ [Hzs Hkit Hdest HO]
  · isplitr; · iexact HC
    isplitr; · iempintro
    isplitl [Hzs Hkit Hdest]
    · unfold preZ
      rw [bigSep_sep', bigSep_sep']
      isplitl [Hkit]; · iexact Hkit
      isplitl [Hzs]; · iexact Hzs
      iexact Hdest
    iexact HO
  iintro ⟨-, HF, HO⟩
  unfold WP
  rw [wp_bind]
  iapply (wp_load_any d kM r0) $$ Hk
  iintro %_ Hk
  rw [wp_bind]
  iapply (wp_store_k d (KF X Y d)) $$ Hk
  iintro Hk
  iapply HQ
  isplitl [HX HY]
  · isplitl [HX]; · iexact HX
    iexact HY
  isplitl [Hk]; · iexact Hk
  isplitl [HF]; · iexact HF
  iexact HO

end Cert.KernelIdeal.Own
-- ==== Proof.IdealWhole.lean ====
/- The body of a device from end to end. -/
module

public import proofs.«01_k».proof.Proof.IdealBody

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

variable (X : Dev nD → Vec F S1024x1024 .bf16) (Y : Dev nD → Vec F S1024x4096 .bf16) (K : Dev nD × Slot → ℕ)

/-- The six scratch buffers of device `d` at any contents. -/
def scratch (d : Dev nD) : sProp 𝕄 :=
  iprop(anyOf d kM ∗ anyOf d zsM ∗ anyOf d zrM ∗ anyOf d wbM ∗ anyOf d s1M ∗ anyOf d s2M)

/-- What device `d`'s body starts from, -/
def inp (d : Dev nD) : sProp 𝕄 :=
  iprop((bigSep Finset.univ fun e => kit e d) ∗ barKit d ∗ blocks X Y d ∗ anyOf d oM ∗ scratch d ∗ owesAny d (owed d))

/-- and what it ends with: all counters at zero, the blocks as they were, and the result. -/
def outp (d : Dev nD) : sProp 𝕄 :=
  iprop((bigSep Finset.univ fun e => zeros e d) ∗ semVal (barCell d) 0 ∗ blocks X Y d ∗ owns (d : Thread nD τ) oM fullShare (OUT X Y d)
    ∗ scratch d ∗ owesAny d 0)

/-- What the three rounds leave. -/
def left (d : Dev nD) : sProp 𝕄 :=
  iprop(kept X Y d
    ∗ ((bigSep Finset.univ fun c => sndPay X Y (.z c) d) ∗ (bigSep Finset.univ fun c => rcvPay X Y (.z c) d) ∗ (bigSep Finset.univ fun c => zeros (.z c) d)
        ∗ (bigSep Finset.univ fun c => win d (quarter d) c (outC X Y d (quarter d) c)))
    ∗ ((bigSep Finset.univ fun c => zeros (.a c) d) ∗ (bigSep Finset.univ fun c => win d (quarter (p1 c d)) c (outC X Y d (quarter (p1 c d)) c)))
    ∗ bigSep Finset.univ (postC X Y d))

theorem postA_all (d : Dev nD) : bigSep Finset.univ (postA X Y d)
    = iprop((bigSep Finset.univ fun c => sndPay X Y (.z c) d) ∗ (bigSep Finset.univ fun c => rcvPay X Y (.z c) d)
        ∗ (bigSep Finset.univ fun c => zeros (.z c) d) ∗ (bigSep Finset.univ fun c => win d (quarter d) c (outC X Y d (quarter d) c))
        ∗ bigSep Finset.univ fun c => flight (.a c) d) := by
  unfold postA
  rw [bigSep_sep', bigSep_sep', bigSep_sep', bigSep_sep']

theorem postB_all (d : Dev nD) : bigSep Finset.univ (postB X Y d)
    = iprop((bigSep Finset.univ fun c => zeros (.a c) d) ∗ (bigSep Finset.univ fun c => win d (quarter (p1 c d)) c (outC X Y d (quarter (p1 c d)) c))
        ∗ (bigSep Finset.univ fun c => flight (.b c 0) d) ∗ bigSep Finset.univ fun c => flight (.b c 1) d) := by
  unfold postB
  rw [bigSep_sep', bigSep_sep', bigSep_sep']

/-- Owned chunks join to the whole buffer. -/
theorem chunks_from (d : Dev nD) (m : Memref sig .tc .vmem S512x1024 .bf16) (v : Fin 8 → Vec F S512x128 .bf16) :
    (bigSep Finset.univ fun c => owns (d : Thread nD τ) (m.slice (ck c) (fun _ => rfl)) fullShare (v c) : sProp 𝕄) ⊢ anyOf d m :=
  (bigSep_mono fun c _ => anyOf_intro d (m.slice (ck c) (fun _ => rfl)) (v c)).trans (chunks_join d m)

theorem layers_from (d : Dev nD) (v w : Fin 8 → Vec F S512x128 .bf16) :
    iprop((bigSep Finset.univ fun c => owns (d : Thread nD τ) (s2C c 0) fullShare (v c)) ∗ bigSep Finset.univ fun c => owns (d : Thread nD τ) (s2C c 1) fullShare (w c))
      ⊢ (anyOf d s2M : sProp 𝕄) := by
  rw [← bigSep_sep']
  exact (bigSep_mono fun c _ => BIClass.sep_mono (anyOf_intro d (s2C c 0) (v c)) (anyOf_intro d (s2C c 1) (w c))).trans (layers_join d)

theorem wp_rounds (d : Dev nD) (Q : PUnit → sProp 𝕄) :
    iprop(ctx X Y K ∗ kept X Y d ∗ bigSep Finset.univ (preA d)
        ∗ (bigSep Finset.univ fun c => iprop(kit (.b c 0) d ∗ kit (.b c 1) d)) ∗ (bigSep Finset.univ fun c => winAny d (quarter (p1 c d)) c)
        ∗ (bigSep Finset.univ fun c => winAny d (quarter (p2 c d)) c) ∗ (bigSep Finset.univ fun c => winAny d (quarter (xp (yp d))) c)
        ∗ (bigSep Finset.univ fun c => dest2 c d) ∗ owesAny d (due d order2))
      ⊢ iprop((left X Y d ∗ owesAny d 0 -∗ Q ⟨⟩) -∗ WP d (rounds d) Q) := by
  iintro ⟨#HC, HK, HA, Hkit, Hw1, Hw2, Hw3, Hd2, HO⟩ HQ
  unfold rounds
  iapply (wp_round X Y K d (roundA d) (kept X Y d) (preA d) (postA X Y d) (fun c => [.a c]) 2 (fun c l hl Q => wp_roundA X Y K d c l hl Q)
    (chunks.flatMap bs ++ []) _ _ (by decide)) $$ [HK HA HO]
  · isplitr; · iexact HC
    isplitl [HK]; · iexact HK
    isplitl [HA]; · iexact HA
    iexact HO
  iintro ⟨HK, HA, HO⟩
  ihave HA := (Entails.of_eq (postA_all X Y d)) $$ HA
  icases HA with ⟨HsZ, HrZ, HzZ, HwO, HfA⟩
  ihave Hkit := (Entails.of_eq (bigSep_sep' Finset.univ (fun c => kit (.b c 0) d) fun c => kit (.b c 1) d)) $$ Hkit
  icases Hkit with ⟨Hk0, Hk1⟩
  iapply (wp_round X Y K d (roundB d) iprop(emp) (preB d) (postB X Y d) bs 3 (step_b X Y K d) [] _ _ (by decide)) $$ [HfA Hk0 Hk1 Hw1 Hd2 HO]
  · isplitr; · iexact HC
    isplitr; · iempintro
    isplitr [HO]
    · unfold preB
      rw [bigSep_sep', bigSep_sep', bigSep_sep', bigSep_sep']
      isplitl [HfA]; · iexact HfA
      isplitl [Hk0]; · iexact Hk0
      isplitl [Hk1]; · iexact Hk1
      isplitl [Hw1]; · iexact Hw1
      iexact Hd2
    iexact HO
  iintro ⟨-, HB, HO⟩
  ihave HB := (Entails.of_eq (postB_all X Y d)) $$ HB
  icases HB with ⟨HzA, Hw1, Hf0, Hf1⟩
  iapply (wp_lastRound X Y K d _ _ chunks) $$ [Hf0 Hf1 Hw2 Hw3 HO]
  · isplitr; · iexact HC
    isplitr [HO]
    · rw [← bigSep_chunks]
      unfold preC
      rw [bigSep_sep', bigSep_sep', bigSep_sep']
      isplitl [Hf0]; · iexact Hf0
      isplitl [Hf1]; · iexact Hf1
      isplitl [Hw2]; · iexact Hw2
      iexact Hw3
    iexact HO
  iintro ⟨HPC, HO⟩
  ihave HPC := (Entails.of_eq (bigSep_chunks (postC X Y d)).symm) $$ HPC
  unfold WP
  rw [Prog.pure_eq_ret, wp_ret]
  imodintro
  iapply HQ
  isplitr [HO]
  · unfold left
    isplitl [HK]; · iexact HK
    isplitl [HsZ HrZ HzZ HwO]
    · isplitl [HsZ]; · iexact HsZ
      isplitl [HrZ]; · iexact HrZ
      isplitl [HzZ]; · iexact HzZ
      iexact HwO
    isplitl [HzA Hw1]
    · isplitl [HzA]; · iexact HzA
      iexact Hw1
    iexact HPC
  iexact HO

theorem left_out (d : Dev nD) :
    left X Y d ⊢ iprop((bigSep Finset.univ fun e => zeros e d) ∗ owns (d : Thread nD τ) oM fullShare (OUT X Y d) ∗ scratch d) := by
  unfold left postC scratch
  rw [bigSep_copies, bigSep_sep', bigSep_sep', bigSep_sep', bigSep_sep', bigSep_sep', bigSep_sep', bigSep_sep', bigSep_sep']
  iintro ⟨HK, ⟨HsZ, HrZ, HzZ, HwO⟩, ⟨HzA, Hw1⟩, ⟨Hs0, Hr0, Hz0⟩, ⟨Hs1, Hr1, Hz1⟩, Hw2, Hw3⟩
  isplitl [HzZ HzA Hz0 Hz1]
  · isplitl [HzZ]; · iexact HzZ
    isplitl [HzA]; · iexact HzA
    isplitl [Hz0]; · iexact Hz0
    iexact Hz1
  isplitl [HwO Hw1 Hw2 Hw3]
  · iapply (windows_join d X Y)
    rw [bigSep_windows d fun q c => win d q c (outC X Y d q c)]
    isplitl [HwO]; · iexact HwO
    isplitl [Hw1 Hw2]
    · isplitl [Hw1]; · iexact Hw1
      iexact Hw2
    iexact Hw3
  isplitl [HK]; · iapply (anyOf_intro d kM (KF X Y d)); unfold kept; iexact HK
  isplitl [HsZ]; · iapply (chunks_from d zsM (ZSc X Y d)); iexact HsZ
  isplitl [HrZ]; · iapply (chunks_from d zrM (ZSc X Y (zp d))); iexact HrZ
  isplitl [Hs0]; · iapply (chunks_from d wbM (WBc X Y d)); iexact Hs0
  isplitl [Hs1]; · iapply (chunks_from d s1M fun c => WBc X Y (p1 c d) c); iexact Hs1
  iapply (layers_from d (fun c => val X Y (.b c 0) (p2 c d)) fun c => val X Y (.b c 1) (p2 c d))
  isplitl [Hr0]; · iexact Hr0
  iexact Hr1

theorem wp_body (d : Dev nD) (Q : PUnit → sProp 𝕄) :
    iprop(ctx X Y K ∗ inp X Y d) ⊢ iprop((outp X Y d -∗ Q ⟨⟩) -∗ WP d body Q) := by
  unfold body WP inp scratch
  simp only [Prog.lift, Prog.bind_op, Prog.bind_ret, wp_deviceId]
  rw [bigSep_copies]
  iintro ⟨#HC, ⟨⟨HkZ, HkA, HkB⟩, Hbar, Hblk, Ho, ⟨Hk, Hzs, Hzr, Hwb, Hs1, Hs2⟩, HO⟩⟩ HQ
  ihave Hzr := (places_z d) $$ Hzr
  ihave Hs1 := (places_a d) $$ Hs1
  ihave Hs2 := (places_b d) $$ Hs2
  iapply (wp_barrier X Y K d) $$ [Hbar Hzr Hs1 Hs2 HO]
  · isplitr; · iexact HC
    isplitl [Hbar]; · iexact Hbar
    isplitl [Hzr]; · iexact Hzr
    isplitl [Hs1]; · iexact Hs1
    isplitl [Hs2]; · iexact Hs2
    iexact HO
  iintro ⟨HdZ, HdA, HdB, Hsem, HO⟩
  iapply (wp_products X Y K d) $$ [Hblk Hk Hzs HkZ HdZ HO]
  · isplitr; · iexact HC
    isplitl [Hblk]; · iexact Hblk
    isplitl [Hk]; · iexact Hk
    isplitl [Hzs]; · iexact Hzs
    isplitl [HkZ]; · iexact HkZ
    isplitl [HdZ]; · iexact HdZ
    iexact HO
  iintro ⟨Hblk, Hk, HfZ, HO⟩
  ihave Hwb := (chunks_cut d wbM) $$ Hwb
  ihave Ho := (windows_cut d) $$ Ho
  ihave Ho := (Entails.of_eq (bigSep_windows d fun q c => winAny d q c)) $$ Ho
  icases Ho with ⟨HwO, ⟨Hw1, Hw2⟩, Hw3⟩
  iapply (wp_rounds X Y K d) $$ [Hk HfZ HkA HwO Hwb HdA HkB Hw1 Hw2 Hw3 HdB HO]
  · isplitr; · iexact HC
    isplitl [Hk]; · iexact Hk
    isplitl [HfZ HkA HwO Hwb HdA]
    · unfold preA
      rw [bigSep_sep', bigSep_sep', bigSep_sep', bigSep_sep']
      isplitl [HfZ]; · iexact HfZ
      isplitl [HkA]; · iexact HkA
      isplitl [HwO]; · iexact HwO
      isplitl [Hwb]; · unfold anyOf; iexact Hwb
      iexact HdA
    isplitl [HkB]; · iexact HkB
    isplitl [Hw1]; · iexact Hw1
    isplitl [Hw2]; · iexact Hw2
    isplitl [Hw3]; · iexact Hw3
    isplitl [HdB]; · iexact HdB
    iexact HO
  iintro ⟨Hleft, HO⟩
  iapply HQ
  ihave Hleft := (left_out X Y d) $$ Hleft
  icases Hleft with ⟨Hz, Ho, Hscr⟩
  unfold outp
  isplitl [Hz]; · iexact Hz
  isplitl [Hsem]; · iexact Hsem
  isplitl [Hblk]; · iexact Hblk
  isplitl [Ho]; · iexact Ho
  isplitl [Hscr]; · iexact Hscr
  iexact HO

end Cert.KernelIdeal.Own
-- ==== Proof.IdealGhost.lean ====
/- The ghost state of the mesh: how it is minted, how the rights to pay are dealt to the devices that pay, and the credit
   that each device has for what the others owe it. -/
module

public import proofs.«01_k».proof.Proof.IdealWhole
public import proofs.«01_k».proof.Proof.Gen.KernelIdeal.Launch

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

variable (X : Dev nD → Vec F S1024x1024 .bf16) (Y : Dev nD → Vec F S1024x4096 .bf16)

/-! ## Cells and tokens -/

theorem endIx_inj : Function.Injective endIx := fun p q h => Option.some.inj ((who_end p).symm.trans ((congrArg who h).trans (who_end q)))

theorem slotSem_inj : Function.Injective slotSem := by
  rintro (_ | p) (_ | q) h
  · rfl
  · exact nomatch h
  · exact nomatch h
  · exact congrArg some (endIx_inj (SemLoc.dma.inj h))

/-- Cells are equal where device and semaphore are. -/
theorem cell_eq {d d' : Dev nD} {s s' : SemLoc sig} (h : (((d : Thread nD τ), s) : GSem nD τ sig) = ((d' : Thread nD τ), s')) : d = d' ∧ s = s' :=
  ⟨congrArg (fun g : GSem nD τ sig => g.1.1) h, congrArg Prod.snd h⟩

theorem kcell_inj : Function.Injective kcell := by
  rintro ⟨d, s⟩ ⟨d', s'⟩ h
  obtain ⟨h1, h2⟩ := cell_eq h
  exact Prod.ext h1 (slotSem_inj h2)

/-- All cells of the mesh. -/
def meshCells : Finset (GSem nD τ sig) := Finset.univ.map ⟨kcell, kcell_inj⟩

/-- The duties of a device's cells: the three of its barrier, the one at each end of a copy. -/
abbrev Duty : Type := Fin 3 ⊕ (Copy × Bool)
abbrev dutyAt : Duty → Slot × Fin 3
  | .inl t => (none, t)
  | .inr p => (some p, 0)

theorem dutyAt_inj : Function.Injective dutyAt := by
  rintro (t | p) (t' | p') h
  · exact congrArg Sum.inl (congrArg Prod.snd h)
  · exact nomatch congrArg Prod.fst h
  · exact nomatch congrArg Prod.fst h
  · exact congrArg Sum.inr (Option.some.inj (congrArg Prod.fst h))

abbrev tokAt (x : Dev nD × Duty) : GSem nD τ sig × ℕ × Fin 3 := (kcell (x.1, (dutyAt x.2).1), 0, (dutyAt x.2).2)

theorem tokAt_inj : Function.Injective tokAt := by
  rintro ⟨d, u⟩ ⟨d', u'⟩ h
  have h1 := kcell_inj (congrArg Prod.fst h)
  have h2 : (dutyAt u).2 = (dutyAt u').2 := congrArg (fun x => x.2.2) h
  exact Prod.ext (congrArg (fun x : Dev nD × Slot => x.1) h1) (dutyAt_inj (Prod.ext (congrArg (fun x : Dev nD × Slot => x.2) h1) h2))

def meshToks : Finset (GSem nD τ sig × ℕ × Fin 3) := Finset.univ.map ⟨tokAt, tokAt_inj⟩

/-! ## Families over a device's cells -/

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_ends (Φ : Copy × Bool → sProp 𝕄) : bigSep Finset.univ Φ = bigSep Finset.univ fun e => iprop(Φ (e, false) ∗ Φ (e, true)) := by
  rw [bigSep_univ_prod]
  exact bigSep_congr fun e _ => bigSep_univ_eq_bigSepL [false, true] (by decide) (by decide) _

theorem bigSep_opt {A : Type} [Fintype A] (Φ : Option A → sProp 𝕄) : bigSep Finset.univ Φ = iprop(Φ none ∗ bigSep Finset.univ fun p => Φ (some p)) := by
  rw [bigSep_univ_equiv (Equiv.optionEquivSumPUnit.{0} A).symm Φ, bigSep_univ_sum]
  have h : (bigSep (Finset.univ : Finset PUnit.{1}) fun u => Φ ((Equiv.optionEquivSumPUnit.{0} A).symm (.inr u))) = Φ none :=
    bigSep_univ_eq_bigSepL [PUnit.unit.{1}] (by decide) (by decide) _
  rw [h]
  exact eq_of_entails sep_comm.1 sep_comm.1

/-- A family over a device's cells. -/
theorem bigSep_slots (Φ : Slot → sProp 𝕄) : bigSep Finset.univ Φ
    = iprop(Φ none ∗ bigSep Finset.univ fun e => iprop(Φ (some (e, false)) ∗ Φ (some (e, true)))) := by
  rw [bigSep_opt, bigSep_ends]

/-! ## Minting -/

/-- The rights to pay at device `d`'s own cells. -/
def ownToks (d : Dev nD) : sProp 𝕄 :=
  iprop((dutyTok ER (barCell d) 0 0 ∗ dutyTok ER (barCell d) 0 1 ∗ dutyTok ER (barCell d) 0 2)
    ∗ bigSep Finset.univ fun e => iprop(dutyTok ER (sndCell e d) 0 0 ∗ dutyTok ER (rcvCell e d) 0 0))

/-- The positions at its cells. -/
def posts (d : Dev nD) : sProp 𝕄 := bigSep Finset.univ fun s : Slot => atPos ER (kcell (d, s)) 0 ∅ 0

/-- What device `d` is dealt at the launch. -/
def G (d : Dev nD) : sProp 𝕄 :=
  iprop((bigSep Finset.univ fun s : Slot => roundState ER (meshRd X Y) (kcell (d, s)) 0)
    ∗ posts d ∗ (bigSep Finset.univ fun s : Slot => reached ER (kcell (d, s)) 0) ∗ ownToks d)

theorem fund_mesh : BI.own (ER (initOf meshCells meshToks)) ⊢ (|==> bigSep Finset.univ (G X Y) : sProp 𝕄) := by
  have hX (Φ : GSem nD τ sig → sProp 𝕄) : bigSep meshCells Φ = bigSep Finset.univ fun d : Dev nD => bigSep Finset.univ fun s : Slot => Φ (kcell (d, s)) := by
    unfold meshCells; rw [bigSep_map, bigSep_univ_prod]; rfl
  have hT : bigSep meshToks (fun x => (dutyTok ER x.1 x.2.1 x.2.2 : sProp 𝕄)) = bigSep Finset.univ fun d : Dev nD => ownToks d := by
    unfold meshToks; rw [bigSep_map, bigSep_univ_prod]
    exact bigSep_congr fun d _ => by unfold ownToks; rw [bigSep_univ_sum, bigSep_three, bigSep_ends]; rfl
  iintro HX
  imod (Rounds.fund ER (meshRd X Y) meshCells meshToks) $$ HX with ⟨Hst, Hr, Hat, Htok⟩
  imodintro
  ihave Hst := (Entails.of_eq (hX fun g => roundState ER (meshRd X Y) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posts; simp only [bigSep_sep']
  isplitl [Hst]; · iexact Hst
  isplitl [Hat]; · iexact Hat
  isplitl [Hr]; · iexact Hr
  iexact Htok

/-! ## The counters -/

/-- The kernel's own semaphores: both ends of every copy. -/
abbrev osem : Copy × Bool → SemLoc sig := fun p => .dma (endIx p)

theorem ownSems_eq (d : Dev nD) : (Pipeline.ownSems0 (Ix := Unit) (Name := ℕ) (U := UU) (Lvl := ℕ) (Val := Elt F) (τ := τ) osem d : sProp 𝕄)
    = bigSep Finset.univ fun e => zeros e d := by
  unfold Pipeline.ownSems0; rw [bigSep_ends]; rfl

/-- The barrier semaphore is the only one that outlives the kernel. -/
theorem barSem_eq (d : Dev nD) : (unscopedSems0 d : sProp 𝕄) = semVal (barCell d) 0 := by
  unfold unscopedSems0; rw [bigSep_eq_bigSepL_of_eq [SemLoc.reg barS] (by decide) (by decide)]; rfl

theorem allSems (d : Dev nD) :
    iprop(Pipeline.ownSems0 (Ix := Unit) (Name := ℕ) (U := UU) (Lvl := ℕ) (Val := Elt F) (τ := τ) osem d ∗ unscopedSems0 d)
      ⊢ (bigSep Finset.univ fun s : Slot => semVal (kcell (d, s)) 0 : sProp 𝕄) := by
  rw [ownSems_eq, barSem_eq, bigSep_slots]
  iintro ⟨HE, HB⟩
  isplitl [HB]; · iexact HB
  iexact HE

/-- Each cell's invariant, under some name. -/
def someInv (x : Dev nD × Slot) : sProp 𝕄 := iprop(∃ κ : ℕ, cellInv ER (meshRd X Y) κ (kcell x))

theorem alloc_all (d : Dev nD) :
    iprop((bigSep Finset.univ fun s : Slot => semVal (kcell (d, s)) 0) ∗ bigSep Finset.univ fun s : Slot => roundState ER (meshRd X Y) (kcell (d, s)) 0)
      ⊢ (|={Set.univ}=> bigSep Finset.univ fun s => someInv X Y (d, s) : sProp 𝕄) := by
  rw [← bigSep_sep']
  exact (bigSep_mono fun s _ => (Rounds.body_intro ER (meshRd X Y) (kcell (d, s))).trans inv_alloc).trans (bigSep_fupd _ _)

/-- One device's cells, set up. -/
def ready (d : Dev nD) : sProp 𝕄 :=
  iprop((bigSep Finset.univ fun s => someInv X Y (d, s)) ∗ (bigSep Finset.univ fun s : Slot => reached ER (kcell (d, s)) 0) ∗ posts d ∗ ownToks d)

theorem make_ready (d : Dev nD) :
    iprop(Pipeline.ownSems0 (Ix := Unit) (Name := ℕ) (U := UU) (Lvl := ℕ) (Val := Elt F) (τ := τ) osem d ∗ unscopedSems0 d ∗ G X Y d)
      ⊢ |={Set.univ}=> ready X Y d := by
  unfold G ready
  iintro ⟨Hos, Hus, Hst, Hat, Hr, Htok⟩
  ihave Hv := (allSems (F := F) d) $$ [Hos Hus]
  · isplitl [Hos] <;> iassumption
  imod (alloc_all X Y d) $$ [Hv Hst] with Hinv
  · isplitl [Hv] <;> iassumption
  imodintro
  isplitl [Hinv]; · iexact Hinv
  isplitl [Hr]; · iexact Hr
  isplitl [Hat] <;> iassumption

/-! ## Dealing -/

/-- What device `d` holds of the ghost state: the rights to pay at its neighbours' barriers and at both ends of its
    copies, and its positions. -/
def rights (d : Dev nD) : sProp 𝕄 :=
  iprop((dutyTok ER (barCell (zp d)) 0 0 ∗ dutyTok ER (barCell (xp d)) 0 1 ∗ dutyTok ER (barCell (yp d)) 0 2)
    ∗ (bigSep Finset.univ fun e => dutyTok ER (sndCell e d) 0 0) ∗ (bigSep Finset.univ fun e => dutyTok ER (rcvCell e (peer e d)) 0 0)
    ∗ posts d)

/-- A map of the devices that undoes itself. -/
abbrev flip (f : Dev nD → Dev nD) (h : ∀ d, f (f d) = d) : Dev nD ≃ Dev nD := ⟨f, f, h, h⟩

theorem bigSep_flip (f : Dev nD → Dev nD) (h : ∀ d, f (f d) = d) (Φ : Dev nD → sProp 𝕄) :
    bigSep Finset.univ Φ = bigSep Finset.univ fun d => Φ (f d) := bigSep_univ_equiv (flip f h) Φ

/-- Sums over devices and copies change places. -/
theorem bigSep_comm' (Φ : Dev nD → Copy → sProp 𝕄) :
    (bigSep Finset.univ fun d => bigSep Finset.univ fun e => Φ d e) = bigSep Finset.univ fun e => bigSep Finset.univ fun d => Φ d e := by
  rw [← bigSep_univ_prod (fun x : Dev nD × Copy => Φ x.1 x.2), bigSep_univ_equiv (Equiv.prodComm Copy (Dev nD)), bigSep_univ_prod]
  rfl

theorem deal : (bigSep Finset.univ fun d : Dev nD => (iprop(posts d ∗ ownToks d) : sProp 𝕄)) ⊢ bigSep Finset.univ fun d : Dev nD => rights d := by
  unfold ownToks rights
  simp only [bigSep_sep']
  rw [bigSep_flip zp zp_zp fun d => (dutyTok ER (barCell d) 0 0 : sProp 𝕄), bigSep_flip xp xp_xp fun d => (dutyTok ER (barCell d) 0 1 : sProp 𝕄),
    bigSep_flip yp yp_yp fun d => (dutyTok ER (barCell d) 0 2 : sProp 𝕄), bigSep_comm' fun d e => (dutyTok ER (rcvCell e d) 0 0 : sProp 𝕄),
    bigSep_congr fun e _ => bigSep_flip (peer e) (peer_peer e) fun d => (dutyTok ER (rcvCell e d) 0 0 : sProp 𝕄),
    ← bigSep_comm' fun d e => (dutyTok ER (rcvCell e (peer e d)) 0 0 : sProp 𝕄)]
  iintro ⟨HP, HB, HS, HR⟩
  isplitl [HB]; · iexact HB
  isplitl [HS]; · iexact HS
  isplitl [HR] <;> iassumption

/-- What device `d` starts from but for its credit: at some names, what all know, and its rights. -/
def G' (d : Dev nD) : sProp 𝕄 := iprop(∃ K, records X Y K ∗ rights d)

theorem G'_intro (K : Dev nD × Slot → ℕ) (d : Dev nD) : iprop(records X Y K ∗ rights d) ⊢ G' X Y d := by
  unfold G'
  iintro H
  iexists K
  iexact H

/-- What all know goes to each. -/
theorem share_known {R : sProp 𝕄} [BI.Persistent R] {Φ Ψ : Dev nD → sProp 𝕄} (h : ∀ d, iprop(R ∗ Φ d) ⊢ Ψ d) :
    iprop(R ∗ bigSep Finset.univ Φ) ⊢ bigSep Finset.univ Ψ :=
  (sep_mono_left (BI.bigSep_of_persistent Finset.univ R)).trans (by rw [← bigSep_sep']; exact bigSep_mono fun d _ => h d)

theorem regroup : (bigSep Finset.univ fun d : Dev nD => ready X Y d) ⊢ bigSep Finset.univ (G' X Y) := by
  have hp : (bigSep Finset.univ fun d : Dev nD => ready X Y d) = iprop((bigSep Finset.univ fun x => someInv X Y x)
      ∗ (bigSep Finset.univ fun x : Dev nD × Slot => reached ER (kcell x) 0) ∗ bigSep Finset.univ fun d => iprop(posts d ∗ ownToks d)) := by
    unfold ready
    rw [bigSep_sep', bigSep_sep', ← bigSep_univ_prod (fun x => someInv X Y x), ← bigSep_univ_prod (fun x : Dev nD × Slot => (reached ER (kcell x) 0 : sProp 𝕄))]
  rw [hp]
  unfold someInv
  iintro ⟨HI, #HR, Hlin⟩
  ihave HK := (BI.bigSep_exists_pi Finset.univ (fun (x : Dev nD × Slot) (κ : ℕ) => (cellInv ER (meshRd X Y) κ (kcell x) : sProp 𝕄))) $$ HI
  icases HK with ⟨%K, #HI⟩
  ihave Hd := (deal (F := F)) $$ Hlin
  iapply (share_known (R := records X Y K) fun d => G'_intro X Y K d)
  isplitr
  · unfold records
    rw [bigSep_sep']
    isplitl; · iexact HI
    iexact HR
  · iexact Hd

/-- The whole set-up, for all devices at once. -/
theorem glob : (bigSep Finset.univ fun d => iprop(Pipeline.ownSems0 (Ix := Unit) (Name := ℕ) (U := UU) (Lvl := ℕ) (Val := Elt F) (τ := τ) osem d ∗ unscopedSems0 d ∗ G X Y d) : sProp 𝕄)
    ⊢ |={Set.univ}=> bigSep Finset.univ (G' X Y) :=
  ((bigSep_mono fun d _ => make_ready X Y d).trans (bigSep_fupd _ _)).trans (BI.fupd_mono (regroup X Y))

/-! ## The credit -/

theorem rcv_bar (e : Copy) (d d' : Dev nD) : rcvCell e d ≠ barCell d' := fun h => nomatch congrArg Prod.snd h

theorem rcv_iff (e e' : Copy) (d d' : Dev nD) : rcvCell e d = rcvCell e' (peer e' d') ↔ e = e' ∧ d' = peer e d := by
  constructor
  · intro h
    obtain ⟨h1, h2⟩ := cell_eq h
    have he : e = e' := congrArg Prod.fst (endIx_inj (a₁ := (e, true)) (a₂ := (e', true)) (SemLoc.dma.inj h2))
    subst he
    exact ⟨rfl, by rw [h1, peer_peer]⟩
  · rintro ⟨rfl, rfl⟩
    rw [peer_peer]

theorem bar_iff (f : Dev nD → Dev nD) (h : ∀ d, f (f d) = d) (d d' : Dev nD) : barCell d = barCell (f d') ↔ d' = f d := by
  constructor
  · intro hb
    rw [(cell_eq hb).1, h]
  · rintro rfl
    rw [h]

/-- Of the copies of a list device `d'` owes device `d`'s arrival `e` what the list has of `e`, if it is the peer. -/
theorem due_rcv (e : Copy) (d d' : Dev nD) (l : List Copy) : due d' l (rcvCell e d) () = if d' = peer e d then N * l.count e else 0 := by
  induction l with
  | nil => rw [List.count_nil, Nat.mul_zero, ite_self]; rfl
  | cons e' l ih =>
    unfold due
    rw [Pi.add_apply, Finsupp.add_apply, ih, tallyAt_apply]
    by_cases hd : d' = peer e d
    · rw [if_pos hd, if_pos hd]
      by_cases he : e = e'
      · subst he
        rw [if_pos ⟨(rcv_iff e e d d').mpr ⟨rfl, hd⟩, rfl⟩, List.count_cons_self, Nat.mul_succ]
      · rw [if_neg fun h => he ((rcv_iff e e' d d').mp h.1).1, List.count_cons_of_ne (fun h => he h.symm), Nat.add_zero]
    · rw [if_neg hd, if_neg hd, if_neg fun h => hd ((rcv_iff e e' d d').mp h.1).2]

theorem due_bar (d d' : Dev nD) (l : List Copy) : due d' l (barCell d) () = 0 := by
  by_contra h
  obtain ⟨e, -, he⟩ := due_pos (Nat.pos_of_ne_zero h)
  exact rcv_bar e _ d he.symm

theorem tally_bar (f : Dev nD → Dev nD) (h : ∀ d, f (f d) = d) (d d' : Dev nD) :
    tallyAt (barCell (f d')) () 1 (barCell d) () = if d' = f d then 1 else 0 := by
  rw [tallyAt_apply]
  by_cases hd : d' = f d
  · rw [if_pos hd, if_pos ⟨(bar_iff f h d d').mpr hd, rfl⟩]
  · rw [if_neg hd, if_neg fun h' => hd ((bar_iff f h d d').mp h'.1)]

theorem owed_rcv (e : Copy) (d d' : Dev nD) : owed d' (rcvCell e d) () = if d' = peer e d then N else 0 := by
  unfold owed owed2 owed3
  simp only [Pi.add_apply, Finsupp.add_apply]
  rw [due_rcv, List.count_eq_one_of_mem order_nodup (mem_order e), Nat.mul_one, tallyAt_ne_cell (rcv_bar e d _), tallyAt_ne_cell (rcv_bar e d _),
    tallyAt_ne_cell (rcv_bar e d _)]
  rfl

theorem owed_bar (d d' : Dev nD) :
    owed d' (barCell d) () = (if d' = yp d then 1 else 0) + (if d' = xp d then 1 else 0) + (if d' = zp d then 1 else 0) := by
  unfold owed owed2 owed3
  simp only [Pi.add_apply, Finsupp.add_apply]
  rw [due_bar, tally_bar yp yp_yp, tally_bar xp xp_xp, tally_bar zp zp_zp, Nat.zero_add]

theorem launch_rcv (e : Copy) (d : Dev nD) :
    tallyOn (rcvCell e d) (launchCredit (Pipeline.owing owed) 0 (rcvCell e d)) = (tallyAt (rcvCell e d) () N : CellTallies nD τ sig Unit) := by
  unfold tallyAt; refine congrArg _ (Finsupp.ext fun u => ?_); cases u
  rw [Pipeline.launchCredit_owing, Finsupp.single_eq_same, Finset.sum_congr rfl fun d' _ => owed_rcv e d d',
    Finset.sum_ite_eq' Finset.univ (peer e d) fun _ => N, if_pos (Finset.mem_univ _)]

theorem launch_bar (d : Dev nD) :
    tallyOn (barCell d) (launchCredit (Pipeline.owing owed) 0 (barCell d)) = (tallyAt (barCell d) () 3 : CellTallies nD τ sig Unit) := by
  unfold tallyAt; refine congrArg _ (Finsupp.ext fun u => ?_); cases u
  rw [Pipeline.launchCredit_owing, Finsupp.single_eq_same, Finset.sum_congr rfl fun d' _ => owed_bar d d', Finset.sum_add_distrib, Finset.sum_add_distrib,
    Finset.sum_ite_eq' Finset.univ (yp d) fun _ => 1, Finset.sum_ite_eq' Finset.univ (xp d) fun _ => 1, Finset.sum_ite_eq' Finset.univ (zp d) fun _ => 1,
    if_pos (Finset.mem_univ _), if_pos (Finset.mem_univ _), if_pos (Finset.mem_univ _)]

/-- The cells at which a device waits for others. -/
abbrev credSem : Option Copy → SemLoc sig
  | none => .reg barS
  | some e => .dma (rcvIx e)
theorem credSem_inj : Function.Injective credSem := by
  rintro (_ | e) (_ | e') h
  · rfl
  · exact nomatch h
  · exact nomatch h
  · exact congrArg (fun p : Copy × Bool => some p.1) (endIx_inj (a₁ := (e, true)) (a₂ := (e', true)) (SemLoc.dma.inj h))

/-- The credit of device `d`. -/
def credits (d : Dev nD) : sProp 𝕄 :=
  iprop(cred (tallyAt (barCell d) () 3) ∗ bigSep Finset.univ fun e => cred (tallyAt (rcvCell e d) () N))

theorem credits_intro (d : Dev nD) : (Pipeline.launchCred owed d : sProp 𝕄) ⊢ credits d := by
  have h : (bigSep (Finset.univ.map ⟨credSem, credSem_inj⟩) fun sm : SemLoc sig =>
      (cred (tallyOn ((d : Thread nD τ), sm) (launchCredit (Pipeline.owing owed) 0 ((d : Thread nD τ), sm))) : sProp 𝕄)) = credits d := by
    rw [bigSep_map, bigSep_opt]
    unfold credits
    rw [← launch_bar]
    exact congrArg _ (bigSep_congr fun e _ => congrArg _ (launch_rcv e d))
  rw [← h]
  unfold Pipeline.launchCred
  exact bigSep_subset (Finset.subset_univ _)

/-- With its rights and its credit a device has its kit for the barrier and for every copy. -/
theorem kits (d : Dev nD) : (iprop(rights d ∗ credits d) : sProp 𝕄) ⊢ iprop((bigSep Finset.univ fun e => kit e d) ∗ barKit d) := by
  unfold rights credits kit barKit posts
  rw [bigSep_slots]
  simp only [bigSep_sep']
  iintro ⟨⟨⟨H0, H1, H2⟩, HS, HR, HPb, HPs, HPr⟩, HCb, HC⟩
  isplitl [HS HR HPs HPr HC]
  · isplitl [HS]; · iexact HS
    isplitl [HR]; · iexact HR
    isplitl [HPs]; · iexact HPs
    isplitl [HPr]; · iexact HPr
    iexact HC
  isplitl [H0]; · iexact H0
  isplitl [H1]; · iexact H1
  isplitl [H2]; · iexact H2
  isplitl [HPb]; · iexact HPb
  iexact HCb

end Cert.KernelIdeal.Own
-- ==== Proof.IdealLaunch.lean ====
/- The launch: the pipeline's three windows around the body, the ghost state dealt to the devices, and the run of the
   whole mesh. -/
module

public import proofs.«01_k».proof.Proof.IdealGhost
public import proofs.«01_k».proof.Proof.Gen.KernelIdeal.Points
public import Idealize.ShloMosaic.Lib.Pipeline.Kit
public import Idealize.ShloMosaic.Lib.Pipeline.CollectiveSegs

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => Res F

variable (m : (ℓ : Loc nD τ sig) → Buf (Elt F) ℓ) (ρ : Dev nD → PrngReg)

/-- The state at the start. -/
def s₀ : MemSt nD τ sig (Elt F) := ⟨m, fun _ => 0, ρ⟩

/-- Device `d`'s blocks of x and dy. -/
def blkX (d : Dev nD) : Vec F S1024x1024 .bf16 := (win0_0.blk (0 : Fin 1)).view.read (Elt F) ((s₀ m ρ).mem ((d : Thread nD τ).loc main_arg0))
def blkY (d : Dev nD) : Vec F S1024x4096 .bf16 := (win0_1.blk (0 : Fin 1)).view.read (Elt F) ((s₀ m ρ).mem ((d : Thread nD τ).loc main_arg1))

/-- Before the body, -/
def before (d : Dev nD) : sProp 𝕄 := iprop((∃ K, ctx (blkX m ρ) (blkY m ρ) K) ∗ ((bigSep Finset.univ fun e => kit e d) ∗ barKit d) ∗ scratch d)
/-- and after it. -/
def behind (d : Dev nD) : sProp 𝕄 := iprop((bigSep Finset.univ fun e => zeros e d) ∗ semVal (barCell d) 0 ∗ scratch d)

/-- What the pipeline holds: the arrays, what the body leaves in the staging buffers, and the kernel's own holdings. -/
def dats (_ : Fin 1) (d : Dev nD) : Pipeline.Dat τ (Elt F) Unit ℕ UU ℕ cfg0 d where
  A w := (s₀ m ρ).mem ((cfg0.win w).arr.view.loc (d : Thread nD τ))
  after w _ := match w with
    | ⟨0, _⟩ => blkX m ρ d
    | ⟨1, _⟩ => blkY m ρ d
    | ⟨2, _⟩ => OUT (blkX m ρ) (blkY m ρ) d
  Φ t := match t with
    | ⟨0, _⟩ => before m ρ d
    | ⟨_ + 1, _⟩ => behind d
  q _ := fullShare
  owed t := match t with
    | ⟨0, _⟩ => owed d
    | ⟨_ + 1, _⟩ => 0

theorem owns_stage (d : Dev nD) (b : Ref sig .tc) (v : b.ty.Contents (Elt F)) :
    (owns (Ix := Unit) (Name := ℕ) (U := UU) (Lvl := ℕ) (d : Thread nD τ) (Memref.whole b) fullShare v : sProp 𝕄)
      = iprop(∃ f : Buf (Elt F) ((d : Thread nD τ).loc b), ⌜f = v⌝ ∗ (((d : Thread nD τ).loc b) ↦{fullShare} f)) := by
  unfold owns; simp only [Memref.view_whole, View.read_whole, View.set_whole]

/-- A whole buffer at any contents. -/
theorem any_whole (d : Dev nD) (b : Ref sig .tc) :
    (iprop(∃ v, owns (d : Thread nD τ) (Memref.whole b) fullShare v) : sProp 𝕄)
      = iprop(∃ f : Buf (Elt F) ((d : Thread nD τ).loc b), ((d : Thread nD τ).loc b) ↦{fullShare} f) := by
  refine eq_of_entails ?_ ?_
  · iintro ⟨%v, H⟩
    ihave H := (Entails.of_eq (owns_stage d b v)) $$ H
    icases H with ⟨%f, -, H⟩
    iexists f
    iexact H
  · iintro ⟨%f, H⟩
    iexists f
    iapply (Entails.of_eq (owns_stage d b f).symm)
    iexists f
    isplitr; · (ipureintro; rfl)
    iexact H

theorem scratch_eq (d : Dev nD) : (Pipeline.scopedRest cfg0.spec d : sProp 𝕄) = scratch d := by
  rw [scopedRest0_eq, ← any_whole, ← any_whole, ← any_whole, ← any_whole, ← any_whole, ← any_whole]
  rfl

/-! ## The body -/

theorem fin_t (t : Fin cfg0.N) : t = t0_0 := fin_N0 t

/-- What the pipeline hands the body, and what it wants back. -/
def given (d : Dev nD) : sProp 𝕄 :=
  iprop(before m ρ d ∗ (dats m ρ 0 d).owesAt () t0_0.castSucc
    ∗ (∃ w, owns (d : Thread nD τ) xM fullShare ((dats m ρ 0 d).before (0 : Fin 3) t0_0 w))
    ∗ (∃ w, owns (d : Thread nD τ) yM fullShare ((dats m ρ 0 d).before (1 : Fin 3) t0_0 w))
    ∗ (∃ w, owns (d : Thread nD τ) oM fullShare ((dats m ρ 0 d).before (2 : Fin 3) t0_0 w)))
def wanted (d : Dev nD) : sProp 𝕄 :=
  iprop(behind d ∗ (dats m ρ 0 d).owesAt () t0_0.succ
    ∗ owns (d : Thread nD τ) xM fullShare (blkX m ρ d) ∗ owns (d : Thread nD τ) yM fullShare (blkY m ρ d)
    ∗ owns (d : Thread nD τ) oM fullShare (OUT (blkX m ρ) (blkY m ρ) d))

theorem before_x (d : Dev nD) (w) : (dats m ρ 0 d).before (0 : Fin 3) t0_0 w = blkX m ρ d := by
  unfold Pipeline.Dat.before; rw [if_pos (fetch0_0 t0_0)]; rfl
theorem before_y (d : Dev nD) (w) : (dats m ρ 0 d).before (1 : Fin 3) t0_0 w = blkY m ρ d := by
  unfold Pipeline.Dat.before; rw [if_pos (fetch0_1 t0_0)]; rfl

theorem sound (d : Dev nD) : given m ρ d ⊢ WP d body (fun _ => wanted m ρ d) := by
  unfold given before
  simp only [before_x, before_y]
  iintro ⟨⟨⟨%K, #Hc⟩, ⟨Hk, Hb⟩, Hs⟩, Ho, ⟨%w0, Hx⟩, ⟨%w1, Hy⟩, ⟨%w2, Hout⟩⟩
  unfold Pipeline.Dat.owesAt Pipeline.owesWithin
  icases Ho with ⟨%W, %hW, HO⟩
  iapply (wp_body (blkX m ρ) (blkY m ρ) K d fun _ => wanted m ρ d) $$ [Hk Hb Hs Hx Hy Hout HO]
  · isplitr; · iexact Hc
    unfold inp blocks owesAny
    isplitl [Hk]; · iexact Hk
    isplitl [Hb]; · iexact Hb
    isplitl [Hx Hy]
    · isplitl [Hx] <;> iassumption
    isplitl [Hout]; · iapply anyOf_intro; iexact Hout
    isplitl [Hs]; · iexact Hs
    iexists W; iexact HO
  unfold outp blocks owesAny wanted behind Pipeline.Dat.owesAt Pipeline.owesWithin
  iintro ⟨Hz, Hzb, ⟨Hx, Hy⟩, Hout, Hs, ⟨%W', HO⟩⟩
  isplitl [Hz Hzb Hs]
  · isplitl [Hz]; · iexact Hz
    isplitl [Hzb] <;> iassumption
  isplitl [HO]
  · iexists W'
    isplitr; · ipureintro; exact fun _ _ => Or.inl trivial
    iexact HO
  isplitl [Hx]; · iexact Hx
  isplitl [Hy] <;> iassumption

/-- The kernel's call at its one point is the body. -/
theorem call_eq : defs₀ (F := F) Proc.tc cfg0.body (cfg0.bodyArgs t0_0 (cfg0.slots t0_0)) = body := by
  have h : defs₀ (F := F) Proc.tc cfg0.body (cfg0.bodyArgs t0_0 (cfg0.slots t0_0)) = bodyAt0 t0_0 := rfl
  rw [h]
  exact body_eq _ _ _ _ _ _ _ _ _

/-- The body at its one point. -/
theorem body_ok (d : Dev nD) : Pipeline.BodyObligation (dats m ρ 0 d) (defs₀ (F := F)) 𝒱₀ () Set.univ := fun t => by
  rw [fin_t t, bigSep_W0, bigSep_W0, call_eq]
  refine Idealize.SL.BI.Entails.trans (entails_of_eq (show _ = given m ρ d from rfl)) ?_
  have h2 := sound m ρ d
  unfold WP at h2
  generalize (body (F := F)) = bb at *
  exact h2

/-! ## The launch -/

theorem osem_facts : Pipeline.OwnSemFacts cfg0.spec osem := ⟨by decide, fun p q h => endIx_inj (SemLoc.dma.inj h), by decide⟩

theorem share_eq (d : Dev nD) (w : Fin cfg0.W) : (dats m ρ 0 d).share w = fullShare := by unfold Pipeline.Dat.share; split <;> rfl

def u₀ : UU := (initOf (Pipeline.cells cfgs cellOf_inj) (Pipeline.launchToks cfgs cellOf_inj), initOf meshCells meshToks)

/-- What device `d` enters the kernel with. -/
def entry (d : Dev nD) : sProp 𝕄 := iprop((∃ K, ctx (blkX m ρ) (blkY m ρ) K) ∗ (bigSep Finset.univ fun e => kit e d) ∗ barKit d)

theorem enter (d : Dev nD) :
    iprop(Pipeline.unscopedRestP Pipeline.Prefetch.none cfg0.spec d (fun b => m ((d : Thread nD τ).loc b)) ∗ levAts L lv
        ∗ Pipeline.launchCred owed d ∗ prngReg d (ρ d) ∗ G' (blkX m ρ) (blkY m ρ) d)
      ⊢ |={Set.univ}=> iprop(entry m ρ d ∗ emp) := by
  unfold G'
  iintro ⟨-, #Hlev, Hcr, -, ⟨%K, #HR, Hr⟩⟩
  ihave Hc := (credits_intro (F := F) d) $$ Hcr
  ihave Hk := (kits (F := F) d) $$ [Hr Hc]
  · isplitl [Hr] <;> iassumption
  imodintro
  unfold entry ctx
  isplitl
  · isplitr
    · iexists K
      isplitr; · iexact HR
      iexact Hlev
    · iexact Hk
  · iempintro

theorem arrive (d : Dev nD) :
    iprop(entry m ρ d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = before m ρ d from rfl, scratch_eq]
  unfold before entry
  iintro ⟨⟨HK, Hk⟩, -, Hs⟩
  isplitl [HK]; · iexact HK
  isplitl [Hk]; · iexact Hk
  iexact Hs

theorem leave (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = behind d from rfl, scratch_eq, ownSems_eq, barSem_eq]
  unfold behind
  iintro ⟨Hz, Hb, Hs⟩
  isplitl [Hb]; · iexact Hb
  isplitl [Hz] <;> iassumption

theorem waits (d : Dev nD) : (levAts L lv : sProp 𝕄) ⊢ Pipeline.cellsWaits cfgs (dats m ρ) () 0 d :=
  Pipeline.cellsWaits_intro cfgs (dats m ρ) () 0 d fun w s t =>
    mayWait_stage d _ (by fin_cases w <;> fin_cases s <;> decide) _ (by
      rcases t with ⟨_ | _, ht⟩
      · exact Or.inl rfl
      · exact Or.inr rfl)

/-- What device `d`'s arrays hold at the end. -/
def final (d : Dev nD) (w : Fin cfg0.W) : Buf (Elt F) ((cfg0.win w).arr.view.loc (d : Thread nD τ)) := (dats m ρ 0 d).arrAt w cfg0.N

def AllFinal : PUnit × MemSt nD τ sig (Elt F) → Prop := fun r =>
  ∀ d : Dev nD, ∀ w : Fin cfg0.W, r.2.mem ((cfg0.win w).arr.view.loc (d : Thread nD τ)) = final m ρ d w

set_option maxRecDepth 8000 in
/-- From any memory with all counters at zero every run of the eight devices ends, with every array at its final contents
    and every counter at zero. -/
theorem run_main : θ_run defs (onTc (τ := τ) (main (F := F))) (s₀ m ρ) (fun r => AllFinal m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := fun d => (body_ok m ρ d).loose) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := G (blkX m ρ) (blkY m ρ)) (G' := G' (blkX m ρ) (blkY m ρ)) (u₀ := u₀)
    (hu₀ := by
      unfold u₀
      iintro Hu
      ihave H := (ownU_pair _ _) $$ Hu
      icases H with ⟨HP, HX⟩
      imod (fund_mesh (blkX m ρ) (blkY m ρ)) $$ HX with HG
      imodintro
      isplitl [HP] <;> iassumption)
    (hglob := glob (blkX m ρ) (blkY m ρ))
    (hA := fun _ _ => rfl) (hpf := fun _ k => k.elim0)
    (X := entry m ρ) (Y := fun d => unscopedSems0 d) (Z := fun _ => iprop(emp))
    (hX := enter m ρ) (hin := arrive m ρ) (hout := leave m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The arrays x and dy hold at the end what they held. -/
theorem final_x (d : Dev nD) : final m ρ d (0 : Fin 3) = m ((d : Thread nD τ).loc main_arg0) :=
  (dats m ρ 0 d).arrAt_in (0 : Fin 3) rfl _
theorem final_y (d : Dev nD) : final m ρ d (1 : Fin 3) = m ((d : Thread nD τ).loc main_arg1) :=
  (dats m ρ 0 d).arrAt_in (1 : Fin 3) rfl _

end Cert.KernelIdeal.Own
-- ==== Proof.IdealValue.lean ====
/- The value: over the extended reals the result that the devices compute is the block of the whole product that the
   reference computes. -/
module

public import proofs.«01_k».proof.Proof.IdealSched
public import proofs.«01_k».proof.Proof.Gen.ReferenceIdeal.Run
public import Idealize.ShloMosaic.Lib.Pointwise
public import Idealize.ShloMosaic.Lib.Layout

@[expose] public section

noncomputable section

namespace Cert.KernelIdeal.Own

open Idealize.ShloMosaic Idealize.ShloMosaic.TcCoe
open Cert.KernelIdeal Cert.KernelIdeal.Gen

/-! ## The products, read at an index -/

theorem sent_apply (a : Vec Ideal S1024x512 .bf16) (b : Vec Ideal S1024x1024 .bf16) (j : S512x1024.Idx) :
    k0_pay4 (F := Ideal) a b j = ∑ k : Fin 1024, a (ix2 k (j 0)) * b (ix2 k (j 1)) := by
  unfold k0_pay4 k0_pay3
  simp only [pointwise]
  exact zero_add _

theorem kept_apply (a : Vec Ideal S1024x512 .bf16) (b : Vec Ideal S1024x1024 .bf16) (j : S512x1024.Idx) :
    k0_pay6 (F := Ideal) (k0_pay5 (k0_pay2 a) (k0_pay3 b)) j = ∑ k : Fin 1024, a (ix2 k (j 0)) * b (ix2 k (j 1)) := by
  unfold k0_pay6 k0_pay5 k0_pay2 k0_pay3
  simp only [pointwise]
  exact zero_add _

/-- Rounding on the road is no rounding here. -/
theorem road_apply (a : Vec Ideal S512x128 .f32) (b : Vec Ideal S512x128 .bf16) (j : S512x128.Idx) :
    k0_pay23 (F := Ideal) (k0_pay8 a b) j = k0_pay7 (F := Ideal) a b j := by
  unfold k0_pay23 k0_pay8
  simp only [pointwise]

/-- The reference's result: the product of the transposed x and dy. -/
def product (x : Vec Ideal ReferenceIdeal.S2048x1024 .bf16) (y : Vec Ideal ReferenceIdeal.S2048x4096 .bf16) :
    Vec Ideal ReferenceIdeal.S1024x4096 .f32 :=
  fun i => ∑ k : Fin 2048, x (ix2 k (i 0)) * y (ix2 k (i 1))

theorem reference_apply (x : FVec Ideal ReferenceIdeal.S2048x1024 .bf16) (y : FVec Ideal ReferenceIdeal.S2048x4096 .bf16) :
    (extf .f32 (truncf .bf16 (Host.dotGeneral ReferenceIdeal.dot_S1024x2048_S2048x4096_S1024x4096_1_0_0_1_n_n none
      (transpose ReferenceIdeal.S1024x2048 [1, 0] x ReferenceIdeal.Facts₀.transposes_S2048x1024_S1024x2048_1_0) y)
        ReferenceIdeal.Facts₀.bitsLt_bf16_f32) ReferenceIdeal.Facts₀.bitsLt_bf16_f32 : FVec Ideal ReferenceIdeal.S1024x4096 .f32) = product x y := by
  funext i
  unfold product
  simp only [pointwise]
  exact zero_add _

/-! ## The two halves of the sum -/

section Halves

variable (x : Vec Ideal ReferenceIdeal.S2048x1024 .bf16) (y : Vec Ideal ReferenceIdeal.S2048x4096 .bf16)

/-- Row `k` of half `s`. -/
def row (s : Fin 2) (k : Fin 1024) : Fin 2048 := ⟨1024 * s.val + k.val, by have := s.isLt; have := k.isLt; omega⟩

/-- The part of the sum over the rows of half `s`. -/
def part (s : Fin 2) (r : Fin 1024) (l : Fin 4096) : EReal := ∑ k : Fin 1024, x (ix2 (row s k) r) * y (ix2 (row s k) l)

theorem product_halves (i : ReferenceIdeal.S1024x4096.Idx) (s t : Fin 2) (h : s ≠ t) :
    product x y i = part x y s (i 0) (i 1) + part x y t (i 0) (i 1) := by
  have e : product x y i = part x y 0 (i 0) (i 1) + part x y 1 (i 0) (i 1) := by
    unfold product part
    refine (Fin.sum_univ_add (a := 1024) (b := 1024) fun k : Fin (1024 + 1024) => x (ix2 k (i 0)) * y (ix2 k (i 1))).trans ?_
    refine congrArg₂ (· + ·) (Finset.sum_congr rfl fun k _ => ?_) (Finset.sum_congr rfl fun k _ => ?_)
    · rw [show row 0 k = Fin.castAdd 1024 k from Fin.ext (by show 1024 * 0 + k.val = k.val; omega)]
    · rw [show row 1 k = Fin.natAdd 1024 k from Fin.ext (by show 1024 * 1 + k.val = 1024 + k.val; omega)]
  rw [e]
  match s, t, h with
  | 0, 1, _ => rfl
  | 1, 0, _ => exact add_comm _ _
  | 0, 0, h => exact absurd rfl h
  | 1, 1, h => exact absurd rfl h

end Halves

/-! ## The devices' blocks -/

section Blocks

variable (x : Vec Ideal ReferenceIdeal.S2048x1024 .bf16) (y : Vec Ideal ReferenceIdeal.S2048x4096 .bf16)
variable (X : Dev nD → Vec Ideal S1024x1024 .bf16) (Y : Dev nD → Vec Ideal S1024x4096 .bf16)

/-- The half of the rows that device `d` holds. -/
def half (d : Dev nD) : Fin 2 := ⟨d.val % 2, Nat.mod_lt _ (by decide)⟩
theorem half_zp : ∀ d, half d ≠ half (zp d) := by decide +kernel

/-- The blocks are those of x and dy. -/
def Cut : Prop := (∀ d k r, X d (ix2 k r) = x (ix2 (row (half d) k) r)) ∧ ∀ d k l, Y d (ix2 k l) = y (ix2 (row (half d) k) l)

variable {x y X Y} (h : Cut x y X Y)
include h

theorem keepX_apply (d : Dev nD) (k : Fin 1024) (j : Fin 512) (r : Fin 1024) (hr : r.val = 512 * (d.val % 2) + j.val) :
    keepX X d (ix2 k j) = x (ix2 (row (half d) k) r) := by
  rw [← h.1]
  refine congrArg (X d) (funext fun a => Fin.ext ?_)
  have e := k0_off1_eq d
  match a with
  | ⟨0, _⟩ => show (k0_off1 d) 0 + 1 * k.val = k.val; rw [e]; show 0 + 1 * k.val = k.val; omega
  | ⟨1, _⟩ => show (k0_off1 d) 1 + 1 * j.val = r.val; rw [e, hr]; show 512 * (d.val % 2) + 1 * j.val = _; omega

theorem giveX_apply (d : Dev nD) (k : Fin 1024) (j : Fin 512) (r : Fin 1024) (hr : r.val = 512 - 512 * (d.val % 2) + j.val) :
    giveX X d (ix2 k j) = x (ix2 (row (half d) k) r) := by
  rw [← h.1]
  refine congrArg (X d) (funext fun a => Fin.ext ?_)
  have e := k0_off2_eq d
  match a with
  | ⟨0, _⟩ => show (k0_off2 d) 0 + 1 * k.val = k.val; rw [e]; show 0 + 1 * k.val = k.val; omega
  | ⟨1, _⟩ => show (k0_off2 d) 1 + 1 * j.val = r.val; rw [e, hr]; show 512 - 512 * (d.val % 2) + 1 * j.val = _; omega

theorem quarterY_apply (d : Dev nD) (k : Fin 1024) (j : Fin 1024) (l : Fin 4096) (hl : l.val = 1024 * (quarter d).val + j.val) :
    quarterY Y d (ix2 k j) = y (ix2 (row (half d) k) l) := by
  rw [← h.2]
  refine congrArg (Y d) (funext fun a => Fin.ext ?_)
  have e := k0_off3_eq d
  have q : (quarter d).val = 2 * (d.val / 4) + d.val / 2 % 2 := by
    have : d.val < 8 := d.isLt
    show (2 * (d.val / 4) + d.val / 2 % 2) % 4 = _
    omega
  match a with
  | ⟨0, _⟩ => show (k0_off3 d) 0 + 1 * k.val = k.val; rw [e]; show 0 + 1 * k.val = k.val; omega
  | ⟨1, _⟩ => show (k0_off3 d) 1 + 1 * j.val = l.val; rw [e, hl, q]; show 2048 * (d.val / 4) + 1024 * ((d.val / 2) % 2) + 1 * j.val = _; omega

/-- What device `d` keeps is its half's part of the sum at its own rows, -/
theorem KF_apply (d : Dev nD) (j : S512x1024.Idx) (r : Fin 1024) (l : Fin 4096) (hr : r.val = 512 * (d.val % 2) + (j 0).val)
    (hl : l.val = 1024 * (quarter d).val + (j 1).val) : KF X Y d j = part x y (half d) r l := by
  unfold KF part
  rw [kept_apply]
  exact Finset.sum_congr rfl fun k _ => congrArg₂ (· * ·) (keepX_apply h d k (j 0) r hr) (quarterY_apply h d k (j 1) l hl)

/-- and what it sends is its half's part at the neighbour's rows. -/
theorem ZS_apply (d : Dev nD) (j : S512x1024.Idx) (r : Fin 1024) (l : Fin 4096) (hr : r.val = 512 - 512 * (d.val % 2) + (j 0).val)
    (hl : l.val = 1024 * (quarter d).val + (j 1).val) : ZS X Y d j = part x y (half d) r l := by
  unfold ZS part
  rw [sent_apply]
  exact Finset.sum_congr rfl fun k _ => congrArg₂ (· * ·) (giveX_apply h d k (j 0) r hr) (quarterY_apply h d k (j 1) l hl)

omit h in
theorem zp_place : ∀ d : Dev nD, 512 - 512 * ((zp d).val % 2) = 512 * (d.val % 2) ∧ quarter (zp d) = quarter d := by decide +kernel

/-- A device's chunk of the sum is the product at its rows and columns. -/
theorem Wc_apply (d : Dev nD) (c : Fin 8) (j : S512x128.Idx) (i : ReferenceIdeal.S1024x4096.Idx) (hr : (i 0).val = 512 * (d.val % 2) + (j 0).val)
    (hl : (i 1).val = 1024 * (quarter d).val + 128 * c.val + (j 1).val) : Wc X Y d c j = product x y i := by
  obtain ⟨hz, hq⟩ := zp_place d
  have e0 : (((ck c).emb j) 0).val = (j 0).val := by show 0 + 1 * (j 0).val = _; omega
  have e1 : (((ck c).emb j) 1).val = 128 * c.val + (j 1).val := by show 128 * c.val + 1 * (j 1).val = _; omega
  rw [product_halves x y i (half d) (half (zp d)) (half_zp d)]
  refine (show Wc X Y d c j = KF X Y d ((ck c).emb j) + ZS X Y (zp d) ((ck c).emb j) from rfl).trans
    (congrArg₂ (· + ·) (KF_apply h d _ _ _ ?_ ?_) (ZS_apply h (zp d) _ _ _ ?_ ?_))
  · rw [e0, hr]
  · rw [e1, hl]; omega
  · rw [e0, hr, hz]
  · rw [e1, hl, hq]; omega

omit h in
theorem holder_place : ∀ (q : Fin 4) (d : Dev nD), (holder q d).val % 2 = d.val % 2 ∧ quarter (holder q d) = q ∧ holder (quarter d) d = d := by
  decide +kernel

/-- The result on device `d` is its block of the product. -/
theorem OUT_apply (d : Dev nD) (i : S512x4096.Idx) (u : ReferenceIdeal.S1024x4096.Idx) (h0 : (u 0).val = 512 * (d.val % 2) + (i 0).val)
    (h1 : (u 1).val = (i 1).val) : OUT X Y d i = product x y u := by
  have hi0 : (i 0).val < 512 := (i 0).isLt
  have hi1 : (i 1).val < 4096 := (i 1).isLt
  obtain ⟨p0, p1, p2⟩ := holder_place (iq i) d
  have e : OUT X Y d i = Wc X Y (holder (iq i) d) (ic i) (ij i) := by
    unfold OUT outC
    split
    · next hq => rw [hq, p2]
    · unfold WBc Wc
      exact road_apply _ _ _
  rw [e]
  have j0 : (ij i 0).val = (i 0).val % 512 := rfl
  have j1 : (ij i 1).val = (i 1).val % 128 := rfl
  have q : (iq i).val = (i 1).val / 1024 % 4 := rfl
  have c : (ic i).val = (i 1).val % 1024 / 128 % 8 := rfl
  refine Wc_apply h (holder (iq i) d) (ic i) (ij i) u ?_ ?_
  · rw [p0, h0, j0]; omega
  · rw [p1, h1, j1, q, c]; omega

end Blocks

/-! ## The blocks of the claim -/

/-- Place of an index of device `d`'s block, of arrays cut in rows over the last mesh axis. -/
theorem meshBlock_rows : ∀ d : Dev nD, ((Layout.meshBlock [2, 2, 2] (![[2], []] : Fin 2 → List ℕ) d) 0).val = d.val % 2 ∧
    ((Layout.meshBlock [2, 2, 2] (![[2], []] : Fin 2 → List ℕ) d) 1).val = 0 := by decide +kernel

theorem cut_blocks (x : Vec Ideal ReferenceIdeal.S2048x1024 .bf16) (y : Vec Ideal ReferenceIdeal.S2048x4096 .bf16)
    (X : Dev nD → Vec Ideal S1024x1024 .bf16) (Y : Dev nD → Vec Ideal S1024x4096 .bf16)
    (hX : ∀ d, X d = Layout.blockN ⟨2, ![1024, 1024]⟩ ⟨2, ![2048, 1024]⟩ (Layout.meshBlock [2, 2, 2] ![[2], []] d) x)
    (hY : ∀ d, Y d = Layout.blockN ⟨2, ![1024, 4096]⟩ ⟨2, ![2048, 4096]⟩ (Layout.meshBlock [2, 2, 2] ![[2], []] d) y) :
    Cut x y X Y := by
  refine ⟨fun d k r => ?_, fun d k l => ?_⟩
  · rw [hX, Layout.blockN_apply]
    refine congrArg x (funext fun a => Fin.ext ?_)
    obtain ⟨m0, m1⟩ := meshBlock_rows d
    rw [Layout.TilesN.idx_val]
    match a with
    | ⟨0, _⟩ => show ((Layout.meshBlock [2, 2, 2] (![[2], []] : Fin 2 → List ℕ) d) 0).val * 1024 + k.val = 1024 * (d.val % 2) + k.val; rw [m0]; omega
    | ⟨1, _⟩ => show ((Layout.meshBlock [2, 2, 2] (![[2], []] : Fin 2 → List ℕ) d) 1).val * 1024 + r.val = r.val; rw [m1]; omega
  · rw [hY, Layout.blockN_apply]
    refine congrArg y (funext fun a => Fin.ext ?_)
    obtain ⟨m0, m1⟩ := meshBlock_rows d
    rw [Layout.TilesN.idx_val]
    match a with
    | ⟨0, _⟩ => show ((Layout.meshBlock [2, 2, 2] (![[2], []] : Fin 2 → List ℕ) d) 0).val * 1024 + k.val = 1024 * (d.val % 2) + k.val; rw [m0]; omega
    | ⟨1, _⟩ => show ((Layout.meshBlock [2, 2, 2] (![[2], []] : Fin 2 → List ℕ) d) 1).val * 4096 + l.val = l.val; rw [m1]; omega

theorem OUT_block (x : Vec Ideal ReferenceIdeal.S2048x1024 .bf16) (y : Vec Ideal ReferenceIdeal.S2048x4096 .bf16)
    (X : Dev nD → Vec Ideal S1024x1024 .bf16) (Y : Dev nD → Vec Ideal S1024x4096 .bf16) (h : Cut x y X Y) (d : Dev nD) :
    OUT X Y d = Layout.blockN ⟨2, ![512, 4096]⟩ ⟨2, ![1024, 4096]⟩ (Layout.meshBlock [2, 2, 2] ![[2], []] d) (product x y) := by
  funext i
  rw [Layout.blockN_apply]
  obtain ⟨m0, m1⟩ := meshBlock_rows d
  refine OUT_apply h d i _ ?_ ?_
  · rw [Layout.TilesN.idx_val]
    show ((Layout.meshBlock [2, 2, 2] (![[2], []] : Fin 2 → List ℕ) d) 0).val * 512 + (i 0).val = _
    rw [m0]; omega
  · rw [Layout.TilesN.idx_val]
    show ((Layout.meshBlock [2, 2, 2] (![[2], []] : Fin 2 → List ℕ) d) 1).val * 4096 + (i 1).val = _
    rw [m1]; omega

end Cert.KernelIdeal.Own
-- ==== Proof.IdealClaims.lean ====
/- The claims of the idealized kernel: what its arrays hold at the end, against the reference. -/
module

public import proofs.«01_k».proof.Defs
public import proofs.«01_k».proof.Proof.IdealLaunch
public import proofs.«01_k».proof.Proof.IdealValue

@[expose] public section

noncomputable section

namespace Cert.KernelIdeal.Own

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-! ## Each window's one block is its whole array -/

theorem blkX_eq (d : Dev nD) : blkX m ρ d = m ((d : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _

theorem blkY_eq (d : Dev nD) : blkY m ρ d = m ((d : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _

/-- The result array ends at what the body leaves. -/
theorem final_out (d : Dev nD) : final m ρ d (2 : Fin 3) = OUT (blkX m ρ) (blkY m ρ) d := by
  have h : (win0_2.blk (0 : Fin 1)).view.read (Elt Ideal) (final m ρ d (2 : Fin 3)) = OUT (blkX m ρ) (blkY m ρ) d := by
    unfold final
    rw [show cfg0.N = ((0 : Fin 1) : Fin cfg0.N).val + 1 from rfl, (dats m ρ 0 d).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 (off := fun a => (win0_2.index (0 : Fin 1)) a * main_v1.ty.shape.size a)
    (funext fun a => by fin_cases a <;> decide) (fun a => by fin_cases a <;> decide) _).symm.trans h

/-! ## The claims -/

/-- The idealized kernel ends with its arguments and its counters as they were. -/
theorem frame : Cert.quiescent_KernelIdeal := by
  intro m ρ _
  exact (θ_run defs _ _).mono (fun _ h => ⟨fun c => ⟨(h.1 c (0 : Fin 3)).trans (final_x m ρ c), (h.1 c (1 : Fin 3)).trans (final_y m ρ c)⟩, h.2⟩)
    (run_main (F := Ideal) m ρ)

/-- So does the reference, which has no counters. -/
theorem frame_reference : Cert.quiescent_ReferenceIdeal := by
  intro m ρ _
  exact (θ_run ReferenceIdeal.defs _ _).mono (fun r h => ⟨fun c => (h c).2, sem_eq_zero_of_no_sems (by decide) r.2⟩)
    (ReferenceIdeal.Value.run (F := Ideal) m ρ)

/-- Every device ends with its block of the reference's result. -/
theorem value : Cert.algebraic_KernelIdeal_ReferenceIdeal := by
  intro m ρ m' ρ' _ hagree
  refine ⟨product (m' (((0 : Dev ReferenceIdeal.nD).tc : Thread _ ReferenceIdeal.τ).loc ReferenceIdeal.main_arg0))
    (m' (((0 : Dev ReferenceIdeal.nD).tc : Thread _ ReferenceIdeal.τ).loc ReferenceIdeal.main_arg1)), ?_, ?_⟩
  · refine (θ_run defs _ _).mono (fun _ h c => ⟨(h.1 c (2 : Fin 3)).trans ?_, (h.1 c (0 : Fin 3)).trans (final_x m ρ c),
      (h.1 c (1 : Fin 3)).trans (final_y m ρ c)⟩) (run_main (F := Ideal) m ρ)
    rw [final_out]
    exact OUT_block _ _ _ _ (cut_blocks _ _ _ _ (fun d => (blkX_eq m ρ d).trans (hagree d).1) (fun d => (blkY_eq m ρ d).trans (hagree d).2)) c
  · exact (θ_run ReferenceIdeal.defs _ _).mono (fun _ h => ⟨(h 0).1.trans (reference_apply _ _), (h 0).2⟩)
      (ReferenceIdeal.Value.run (F := Ideal) m' ρ')

end Cert.KernelIdeal.Own
-- ==== Proof.lean ====
/- The five claims together: the frames of the kernel, of the idealized kernel and of the reference, that the idealized
   kernel is the kernel, and that on every device it computes that device's block of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsLaunch
public import proofs.«01_k».proof.Proof.IdealClaims
public import Idealize.ShloMosaic.Adequacy
public import Idealize.ShloMosaic.Init

@[expose] public section

noncomputable section

namespace Cert.Proof

open Idealize.ShloMosaic Idealize.SL.Sem Cert.Kernel

/-- The kernel ends with its arguments and its counters as they were. -/
theorem frame : Cert.quiescent_Kernel := by
  intro m ρ _
  exact (θ_run defs _ _).mono (fun _ h => ⟨fun c => ⟨(h.1 c (0 : Fin 3)).trans (Kernel.Own.final_x m ρ c),
    (h.1 c (1 : Fin 3)).trans (Kernel.Own.final_y m ρ c)⟩, h.2⟩) (Kernel.Own.run_main (F := Bits) m ρ)

/-- All the claims. -/
theorem claim : Cert.Claim := ⟨Cert.Kernel.Gen.facts, Cert.KernelIdeal.Gen.facts, Cert.ReferenceIdeal.Gen.facts,
  frame, KernelIdeal.Own.frame, KernelIdeal.Own.frame_reference, trivial, KernelIdeal.Own.value⟩

end Cert.Proof

end
